-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_plain_norm [hPre_plain_norm : Cert.Pre_plain_norm.Facts] (m : (ℓ : Loc Cert.KernelIdeal.nD Cert.KernelIdeal.τ Cert.KernelIdeal.sig) → Buf (Elt Ideal) ℓ) : Prop :=
  ∀ c : Dev Cert.KernelIdeal.nD,
    (Cert.Pre_plain_norm.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_plain_norm.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_plain_norm.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_plain_norm [hPre_plain_norm : Cert.Pre_plain_norm.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_plain_norm.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_plain_norm.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_plain_norm.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_plain_norm [hKernelIdeal : Cert.KernelIdeal.Facts] [hPre_plain_norm : Cert.Pre_plain_norm.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_plain_norm m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_plain_norm [hReferenceIdeal : Cert.ReferenceIdeal.Facts] [hPre_plain_norm : Cert.Pre_plain_norm.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_plain_norm m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_plain_norm [hKernelIdeal : Cert.KernelIdeal.Facts] [hReferenceIdeal : Cert.ReferenceIdeal.Facts] [hPre_plain_norm : Cert.Pre_plain_norm.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_plain_norm m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_plain_norm : Cert.Pre_plain_norm.Facts),
    quiescent_Kernel (hKernel := hKernel)
    ∧ quiescent_KernelIdeal (hKernelIdeal := hKernelIdeal)
    ∧ quiescent_KernelIdeal_pre_plain_norm (hKernelIdeal := hKernelIdeal) (hPre_plain_norm := hPre_plain_norm)
    ∧ quiescent_ReferenceIdeal (hReferenceIdeal := hReferenceIdeal)
    ∧ quiescent_ReferenceIdeal_pre_plain_norm (hReferenceIdeal := hReferenceIdeal) (hPre_plain_norm := hPre_plain_norm)
    ∧ preserves_Kernel_KernelIdeal
    ∧ algebraic_KernelIdeal_ReferenceIdeal_pre_plain_norm (hKernelIdeal := hKernelIdeal) (hReferenceIdeal := hReferenceIdeal) (hPre_plain_norm := hPre_plain_norm)
-- ==== Pre_plain_norm.lean ====
abbrev S1x2048x768 : Shape := ⟨3, ![1, 2048, 768]⟩
abbrev S768x2048 : Shape := ⟨2, ![768, 2048]⟩
abbrev S2048 : Shape := ⟨1, ![2048]⟩
abbrev S256 : Shape := ⟨1, ![256]⟩
abbrev S128x128 : Shape := ⟨2, ![128, 128]⟩
abbrev S16384x768 : Shape := ⟨2, ![16384, 768]⟩
abbrev S_ : Shape := ⟨0, ![]⟩

class Facts : Prop where
  bcast_S_S2048 : S_.BroadcastsInDim S2048 (![] : Fin 0 → Fin S2048.rank)
  bcast_S_S256 : S_.BroadcastsInDim S256 (![] : Fin 0 → Fin S256.rank)

variable [Facts]

def fn {F : FTy → Type} [FloatOps F] (main_arg0 : FVec F S1x2048x768 .f32) (main_arg1 : FVec F S768x2048 .f32) (main_arg2 : FVec F S2048 .f32) (main_arg3 : FVec F S256 .f32) (main_arg4 : FVec F S256 .f32) (main_arg5 : FVec F S128x128 .f32) (main_arg6 : FVec F S128x128 .f32) (main_arg7 : FVec F S16384x768 .f32) (main_arg8 : FVec F S16384x768 .f32) : IVec S2048 1 × IVec S256 1 × IVec S256 1 :=
  let main_cst : FVec F S_ .f32 := constant S_ .f32 0x00000000#32
  let main_v0 : FVec F S2048 .f32 := broadcastInDim S2048 ![] bcast_S_S2048 main_cst
  let main_v1 : IVec S2048 1 := cmpf .oeq main_arg2 main_v0
  let main_cst_0 : FVec F S_ .f32 := constant S_ .f32 0x3F800000#32
  let main_v2 : FVec F S256 .f32 := broadcastInDim S256 ![] bcast_S_S256 main_cst_0
  let main_v3 : IVec S256 1 := cmpf .oeq main_arg3 main_v2
  let main_cst_1 : FVec F S_ .f32 := constant S_ .f32 0x00000000#32
  let main_v4 : FVec F S256 .f32 := broadcastInDim S256 ![] bcast_S_S256 main_cst_1
  let main_v5 : IVec S256 1 := cmpf .oeq main_arg4 main_v4
  (main_v1, main_v3, main_v5)
-- ==== Kernel.lean ====
abbrev S1x2048x768 : Shape := ⟨3, ![1, 2048, 768]⟩
abbrev S768x2048 : Shape := ⟨2, ![768, 2048]⟩
abbrev S2048 : Shape := ⟨1, ![2048]⟩
abbrev S256 : Shape := ⟨1, ![256]⟩
abbrev S128x128 : Shape := ⟨2, ![128, 128]⟩
abbrev S16384x768 : Shape := ⟨2, ![16384, 768]⟩
abbrev S2048x768 : Shape := ⟨2, ![2048, 768]⟩
abbrev S512x768 : Shape := ⟨2, ![512, 768]⟩
abbrev S256x768 : Shape := ⟨2, ![256, 768]⟩
abbrev S2048x512 : Shape := ⟨2, ![2048, 512]⟩
abbrev S128 : Shape := ⟨1, ![128]⟩
abbrev S128x1 : Shape := ⟨2, ![128, 1]⟩
abbrev S256x512 : Shape := ⟨2, ![256, 512]⟩
abbrev S24x512 : Shape := ⟨2, ![24, 512]⟩
abbrev S512 : Shape := ⟨1, ![512]⟩
abbrev S1x512 : Shape := ⟨2, ![1, 512]⟩
abbrev S128x512 : Shape := ⟨2, ![128, 512]⟩
abbrev S8x512 : Shape := ⟨2, ![8, 512]⟩
abbrev S4x512 : Shape := ⟨2, ![4, 512]⟩
abbrev S2x512 : Shape := ⟨2, ![2, 512]⟩

abbrev nBuf : Space → Nat
  | .hbm => 12
  | .vmem => 9
  | .smem => 0
  | _ => 0

abbrev bufTy : (tb : Table) → Fin (tcTables nBuf tb) → BufTy
  | .hbm, ⟨0, _⟩ => ⟨S1x2048x768, .f32⟩
  | .hbm, ⟨1, _⟩ => ⟨S768x2048, .f32⟩
  | .hbm, ⟨2, _⟩ => ⟨S2048, .f32⟩
  | .hbm, ⟨3, _⟩ => ⟨S256, .f32⟩
  | .hbm, ⟨4, _⟩ => ⟨S256, .f32⟩
  | .hbm, ⟨5, _⟩ => ⟨S128x128, .f32⟩
  | .hbm, ⟨6, _⟩ => ⟨S128x128, .f32⟩
  | .hbm, ⟨7, _⟩ => ⟨S16384x768, .f32⟩
  | .hbm, ⟨8, _⟩ => ⟨S16384x768, .f32⟩
  | .hbm, ⟨9, _⟩ => ⟨S2048x768, .f32⟩
  | .hbm, ⟨10, _⟩ => ⟨S2048x768, .f32⟩
  | .hbm, ⟨11, _⟩ => ⟨S2048x768, .f32⟩
  | .local _ .vmem, ⟨0, _⟩ => ⟨S512x768, .f32⟩
  | .local _ .vmem, ⟨1, _⟩ => ⟨S512x768, .f32⟩
  | .local _ .vmem, ⟨2, _⟩ => ⟨S2048x768, .f32⟩
  | .local _ .vmem, ⟨3, _⟩ => ⟨S128x128, .f32⟩
  | .local _ .vmem, ⟨4, _⟩ => ⟨S128x128, .f32⟩
  | .local _ .vmem, ⟨5, _⟩ => ⟨S256x768, .f32⟩
  | .local _ .vmem, ⟨6, _⟩ => ⟨S256x768, .f32⟩
  | .local _ .vmem, ⟨7, _⟩ => ⟨S512x768, .f32⟩
  | .local _ .vmem, ⟨8, _⟩ => ⟨S512x768, .f32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S1x2048x768 : Shape := ⟨3, ![1, 2048, 768]⟩
abbrev S768x2048 : Shape := ⟨2, ![768, 2048]⟩
abbrev S2048 : Shape := ⟨1, ![2048]⟩
abbrev S256 : Shape := ⟨1, ![256]⟩
abbrev S128x128 : Shape := ⟨2, ![128, 128]⟩
abbrev S16384x768 : Shape := ⟨2, ![16384, 768]⟩
abbrev S1x2048x2048 : Shape := ⟨3, ![1, 2048, 2048]⟩
abbrev S1x1x2048 : Shape := ⟨3, ![1, 1, 2048]⟩
abbrev S1x2048x8x256 : Shape := ⟨4, ![1, 2048, 8, 256]⟩
abbrev S_ : Shape := ⟨0, ![]⟩
abbrev S1x2048x8 : Shape := ⟨3, ![1, 2048, 8]⟩
abbrev S1x2048x8x1 : Shape := ⟨4, ![1, 2048, 8, 1]⟩
abbrev S1x1x1x256 : Shape := ⟨4, ![1, 1, 1, 256]⟩
abbrev S1x2048x8x128 : Shape := ⟨4, ![1, 2048, 8, 128]⟩
abbrev S128 : Shape := ⟨1, ![128]⟩
abbrev S128x1 : Shape := ⟨2, ![128, 1]⟩
abbrev S1x2048x8x8 : Shape := ⟨4, ![1, 2048, 8, 8]⟩
abbrev S1x2048x8x8x1 : Shape := ⟨5, ![1, 2048, 8, 8, 1]⟩
abbrev S1x2048x8x1x8 : Shape := ⟨5, ![1, 2048, 8, 1, 8]⟩
abbrev S1x2048x8x8x8 : Shape := ⟨5, ![1, 2048, 8, 8, 8]⟩
abbrev S1x2048x8x64 : Shape := ⟨4, ![1, 2048, 8, 64]⟩
abbrev S2048x8x8x1 : Shape := ⟨4, ![2048, 8, 8, 1]⟩
abbrev S1 : Shape := ⟨1, ![1]⟩
abbrev S1x1x1x1 : Shape := ⟨4, ![1, 1, 1, 1]⟩
abbrev S2048x8x8 : Shape := ⟨3, ![2048, 8, 8]⟩
abbrev S1x1x1x1x1 : Shape := ⟨5, ![1, 1, 1, 1, 1]⟩
abbrev S1x2048x8x8x768 : Shape := ⟨5, ![1, 2048, 8, 8, 768]⟩
abbrev S2048x768 : Shape := ⟨2, ![2048, 768]⟩

abbrev nBuf : Space → Nat
  | .hbm => 221
  | .vmem => 0
  | .smem => 0
  | _ => 0

abbrev hbmTy0_0 (i : Nat) : BufTy := match i % 128 with
  | 0 => ⟨S1x2048x768, .f32⟩
  | 1 => ⟨S768x2048, .f32⟩
  | 2 => ⟨S2048, .f32⟩
  | 3 => ⟨S256, .f32⟩
  | 4 => ⟨S256, .f32⟩
  | 5 => ⟨S128x128, .f32⟩
  | 6 => ⟨S128x128, .f32⟩
  | 7 => ⟨S16384x768, .f32⟩
  | 8 => ⟨S16384x768, .f32⟩
  | 9 => ⟨S1x2048x2048, .f32⟩
  | 10 => ⟨S1x1x2048, .f32⟩
  | 11 => ⟨S1x2048x2048, .f32⟩
  | 12 => ⟨S1x2048x2048, .f32⟩
  | 13 => ⟨S1x2048x8x256, .f32⟩
  | 14 => ⟨S_, .f32⟩
  | 15 => ⟨S1x2048x8, .f32⟩
  | 16 => ⟨S1x2048x8x1, .f32⟩
  | 17 => ⟨S_, .f32⟩
  | 18 => ⟨S1x2048x8x1, .f32⟩
  | 19 => ⟨S1x2048x8x1, .f32⟩
  | 20 => ⟨S_, .i32⟩
  | 21 => ⟨S_, .f32⟩
  | 22 => ⟨S1x2048x8, .f32⟩
  | 23 => ⟨S1x2048x8x1, .f32⟩
  | 24 => ⟨S_, .f32⟩
  | 25 => ⟨S1x2048x8x1, .f32⟩
  | 26 => ⟨S1x2048x8x1, .f32⟩
  | 27 => ⟨S1x2048x8x256, .f32⟩
  | 28 => ⟨S1x2048x8x256, .f32⟩
  | 29 => ⟨S1x2048x8x256, .f32⟩
  | 30 => ⟨S_, .f32⟩
  | 31 => ⟨S_, .f32⟩
  | 32 => ⟨S_, .f32⟩
  | 33 => ⟨S_, .f32⟩
  | 34 => ⟨S1x2048x8, .f32⟩
  | 35 => ⟨S1x2048x8x1, .f32⟩
  | 36 => ⟨S1x2048x8x1, .f32⟩
  | 37 => ⟨S1x2048x8x1, .f32⟩
  | 38 => ⟨S_, .f32⟩
  | 39 => ⟨S_, .i1⟩
  | 40 => ⟨S_, .f32⟩
  | 41 => ⟨S_, .f32⟩
  | 42 => ⟨S1x2048x8x1, .f32⟩
  | 43 => ⟨S1x2048x8x1, .f32⟩
  | 44 => ⟨S1x2048x8x256, .f32⟩
  | 45 => ⟨S1x2048x8x256, .f32⟩
  | 46 => ⟨S_, .f32⟩
  | 47 => ⟨S1x2048x8x1, .f32⟩
  | 48 => ⟨S1x2048x8x1, .f32⟩
  | 49 => ⟨S1x2048x8x1, .f32⟩
  | 50 => ⟨S1x2048x8x256, .f32⟩
  | 51 => ⟨S1x2048x8x256, .f32⟩
  | 52 => ⟨S1x1x1x256, .f32⟩
  | 53 => ⟨S1x2048x8x256, .f32⟩
  | 54 => ⟨S1x2048x8x256, .f32⟩
  | 55 => ⟨S1x1x1x256, .f32⟩
  | 56 => ⟨S1x2048x8x256, .f32⟩
  | 57 => ⟨S1x2048x8x256, .f32⟩
  | 58 => ⟨S1x2048x8x128, .f32⟩
  | 59 => ⟨S1x2048x8x128, .f32⟩
  | 60 => ⟨S1x2048x8x128, .f32⟩
  | 61 => ⟨S_, .f32⟩
  | 62 => ⟨S1x2048x8, .f32⟩
  | 63 => ⟨S1x2048x8x1, .f32⟩
  | 64 => ⟨S1x2048x8x1, .f32⟩
  | 65 => ⟨S_, .f32⟩
  | 66 => ⟨S1x2048x8x1, .f32⟩
  | 67 => ⟨S1x2048x8x1, .f32⟩
  | 68 => ⟨S1x2048x8x128, .f32⟩
  | 69 => ⟨S1x2048x8x128, .f32⟩
  | 70 => ⟨S128x128, .f32⟩
  | 71 => ⟨S_, .f32⟩
  | 72 => ⟨S128, .f32⟩
  | 73 => ⟨S128x1, .f32⟩
  | 74 => ⟨S128x1, .f32⟩
  | 75 => ⟨S_, .f32⟩
  | 76 => ⟨S128x1, .f32⟩
  | 77 => ⟨S128x1, .f32⟩
  | 78 => ⟨S128x128, .f32⟩
  | 79 => ⟨S128x128, .f32⟩
  | 80 => ⟨S128x128, .f32⟩
  | 81 => ⟨S1x2048x8x128, .f32⟩
  | 82 => ⟨S1x2048x8x128, .f32⟩
  | 83 => ⟨S_, .f32⟩
  | 84 => ⟨S1x2048x8, .f32⟩
  | 85 => ⟨S1x2048x8x1, .f32⟩
  | 86 => ⟨S1x2048x8x1, .f32⟩
  | 87 => ⟨S_, .f32⟩
  | 88 => ⟨S1x2048x8x1, .f32⟩
  | 89 => ⟨S1x2048x8x1, .f32⟩
  | 90 => ⟨S1x2048x8x128, .f32⟩
  | 91 => ⟨S1x2048x8x128, .f32⟩
  | 92 => ⟨S128x128, .f32⟩
  | 93 => ⟨S_, .f32⟩
  | 94 => ⟨S128, .f32⟩
  | 95 => ⟨S128x1, .f32⟩
  | 96 => ⟨S128x1, .f32⟩
  | 97 => ⟨S_, .f32⟩
  | 98 => ⟨S128x1, .f32⟩
  | 99 => ⟨S128x1, .f32⟩
  | 100 => ⟨S128x128, .f32⟩
  | 101 => ⟨S128x128, .f32⟩
  | 102 => ⟨S128x128, .f32⟩
  | 103 => ⟨S1x2048x8x128, .f32⟩
  | 104 => ⟨S1x2048x8x8, .f32⟩
  | 105 => ⟨S1x2048x8x8, .i32⟩
  | 106 => ⟨S1x2048x8x8, .f32⟩
  | 107 => ⟨S1x2048x8x8, .i32⟩
  | 108 => ⟨S1x2048x8x8x1, .f32⟩
  | 109 => ⟨S1x2048x8x1x8, .f32⟩
  | 110 => ⟨S1x2048x8x8x8, .f32⟩
  | 111 => ⟨S1x2048x8x8x8, .f32⟩
  | 112 => ⟨S1x2048x8x8x8, .f32⟩
  | 113 => ⟨S1x2048x8x8x1, .i32⟩
  | 114 => ⟨S1x2048x8x1x8, .i32⟩
  | 115 => ⟨S_, .i32⟩
  | 116 => ⟨S1x2048x8x1x8, .i32⟩
  | 117 => ⟨S1x2048x8x1x8, .i32⟩
  | 118 => ⟨S1x2048x8x8x8, .i32⟩
  | 119 => ⟨S1x2048x8x8x8, .i32⟩
  | 120 => ⟨S1x2048x8x8x8, .i32⟩
  | 121 => ⟨S1x2048x8x64, .f32⟩
  | 122 => ⟨S1x2048x8x64, .i32⟩
  | 123 => ⟨S1x2048x8x8, .f32⟩
  | 124 => ⟨S1x2048x8x8, .i32⟩
  | 125 => ⟨S_, .i32⟩
  | 126 => ⟨S1x2048x8x8, .i32⟩
  | 127 => ⟨S1x2048x8x8, .i1⟩
  | _ => ⟨S1x2048x768, .f32⟩

abbrev hbmTy0_1 (i : Nat) : BufTy := match i % 128 with
  | 0 => ⟨S_, .i32⟩
  | 1 => ⟨S1x2048x8x8, .i32⟩
  | 2 => ⟨S1x2048x8x8, .i32⟩
  | 3 => ⟨S1x2048x8x8, .i32⟩
  | 4 => ⟨S2048x8x8x1, .i32⟩
  | 5 => ⟨S1, .i32⟩
  | 6 => ⟨S_, .i32⟩
  | 7 => ⟨S2048x8x8x1, .i32⟩
  | 8 => ⟨S2048x8x8x1, .i1⟩
  | 9 => ⟨S1x1x1x1, .i32⟩
  | 10 => ⟨S2048x8x8x1, .i32⟩
  | 11 => ⟨S2048x8x8x1, .i1⟩
  | 12 => ⟨S2048x8x8x1, .i1⟩
  | 13 => ⟨S_, .i1⟩
  | 14 => ⟨S2048x8x8, .i1⟩
  | 15 => ⟨S1x2048x8x8, .i32⟩
  | 16 => ⟨S1x2048x8x8, .i1⟩
  | 17 => ⟨S_, .i32⟩
  | 18 => ⟨S1x2048x8x8, .i32⟩
  | 19 => ⟨S1x2048x8x8, .i32⟩
  | 20 => ⟨S_, .f32⟩
  | 21 => ⟨S1x2048x8, .f32⟩
  | 22 => ⟨S_, .f32⟩
  | 23 => ⟨S1x2048x8, .f32⟩
  | 24 => ⟨S1x2048x8, .f32⟩
  | 25 => ⟨S1x2048x8x1, .f32⟩
  | 26 => ⟨S1x2048x8x8, .f32⟩
  | 27 => ⟨S1x2048x8x8, .f32⟩
  | 28 => ⟨S1x2048x8x8, .f32⟩
  | 29 => ⟨S_, .f32⟩
  | 30 => ⟨S1x2048x8, .f32⟩
  | 31 => ⟨S1x2048x8x1, .f32⟩
  | 32 => ⟨S1x2048x8x8, .f32⟩
  | 33 => ⟨S1x2048x8x8, .f32⟩
  | 34 => ⟨S_, .i32⟩
  | 35 => ⟨S1x2048x8x8, .i32⟩
  | 36 => ⟨S1x2048x8x8, .i1⟩
  | 37 => ⟨S_, .i32⟩
  | 38 => ⟨S1x2048x8x8, .i32⟩
  | 39 => ⟨S1x2048x8x8, .i32⟩
  | 40 => ⟨S1x2048x8x8, .i32⟩
  | 41 => ⟨S1x2048x8x8x1, .i32⟩
  | 42 => ⟨S1, .i32⟩
  | 43 => ⟨S_, .i32⟩
  | 44 => ⟨S1x2048x8x8x1, .i32⟩
  | 45 => ⟨S1x2048x8x8x1, .i1⟩
  | 46 => ⟨S1x1x1x1x1, .i32⟩
  | 47 => ⟨S1x2048x8x8x1, .i32⟩
  | 48 => ⟨S1x2048x8x8x1, .i1⟩
  | 49 => ⟨S1x2048x8x8x1, .i1⟩
  | 50 => ⟨S_, .i1⟩
  | 51 => ⟨S1x2048x8x8, .i1⟩
  | 52 => ⟨S1x2048x8x8x768, .f32⟩
  | 53 => ⟨S1x2048x8x8x768, .i1⟩
  | 54 => ⟨S_, .f32⟩
  | 55 => ⟨S1x2048x8x8x768, .f32⟩
  | 56 => ⟨S1x2048x8x8x768, .f32⟩
  | 57 => ⟨S1x2048x8x8, .f32⟩
  | 58 => ⟨S_, .f32⟩
  | 59 => ⟨S1x2048x8x8, .f32⟩
  | 60 => ⟨S1x2048x8x8, .f32⟩
  | 61 => ⟨S1x2048x8x8, .f32⟩
  | 62 => ⟨S_, .f32⟩
  | 63 => ⟨S1x2048x8x8, .f32⟩
  | 64 => ⟨S1x2048x8x8, .f32⟩
  | 65 => ⟨S1x2048x8x8, .f32⟩
  | 66 => ⟨S1x2048x8x8, .f32⟩
  | 67 => ⟨S1x2048x8x8, .f32⟩
  | 68 => ⟨S_, .i32⟩
  | 69 => ⟨S1x2048x8x8, .i32⟩
  | 70 => ⟨S1x2048x8x8, .i1⟩
  | 71 => ⟨S_, .i32⟩
  | 72 => ⟨S1x2048x8x8, .i32⟩
  | 73 => ⟨S1x2048x8x8, .i32⟩
  | 74 => ⟨S1x2048x8x8, .i32⟩
  | 75 => ⟨S1x2048x8x8x1, .i32⟩
  | 76 => ⟨S1, .i32⟩
  | 77 => ⟨S_, .i32⟩
  | 78 => ⟨S1x2048x8x8x1, .i32⟩
  | 79 => ⟨S1x2048x8x8x1, .i1⟩
  | 80 => ⟨S1x1x1x1x1, .i32⟩
  | 81 => ⟨S1x2048x8x8x1, .i32⟩
  | 82 => ⟨S1x2048x8x8x1, .i1⟩
  | 83 => ⟨S1x2048x8x8x1, .i1⟩
  | 84 => ⟨S_, .i1⟩
  | 85 => ⟨S1x2048x8x8, .i1⟩
  | 86 => ⟨S1x2048x8x8x768, .f32⟩
  | 87 => ⟨S1x2048x8x8x768, .i1⟩
  | 88 => ⟨S_, .f32⟩
  | 89 => ⟨S1x2048x8x8x768, .f32⟩
  | 90 => ⟨S1x2048x8x8x768, .f32⟩
  | 91 => ⟨S1x2048x768, .f32⟩
  | 92 => ⟨S2048x768, .f32⟩
  | _ => ⟨S1x2048x768, .f32⟩

abbrev hbmTy (i : Nat) : BufTy := match i / 128 with
  | 0 => hbmTy0_0 i
  | 1 => hbmTy0_1 i
  | _ => ⟨S1x2048x768, .f32⟩

abbrev bufTy : (tb : Table) → Fin (tcTables nBuf tb) → BufTy
  | .hbm, ⟨i, _⟩ => hbmTy i
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_cst_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_cst_1 : Ref sig .tc := ⟨.hbm, 31, rfl⟩
abbrev main_call0_v8 : Ref sig .tc := ⟨.hbm, 32, rfl⟩
abbrev main_call0_cst_2 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_v12 : Ref sig .tc := ⟨.hbm, 37, rfl⟩
abbrev main_call0_cst_3 : Ref sig .tc := ⟨.hbm, 38, rfl⟩
abbrev main_call0_v13 : Ref sig .tc := ⟨.hbm, 39, rfl⟩
abbrev main_call0_cst_4 : Ref sig .tc := ⟨.hbm, 40, rfl⟩
abbrev main_call0_call0_v0 : Ref sig .tc := ⟨.hbm, 41, rfl⟩
abbrev main_call0_call0_v1 : Ref sig .tc := ⟨.hbm, 42, rfl⟩
abbrev main_v9 : Ref sig .tc := ⟨.hbm, 43, rfl⟩
abbrev main_v10 : Ref sig .tc := ⟨.hbm, 44, rfl⟩
abbrev main_v11 : Ref sig .tc := ⟨.hbm, 45, rfl⟩
abbrev main_cst_1 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_call1_v0 : Ref sig .tc := ⟨.hbm, 60, rfl⟩
abbrev main_call1_cst : Ref sig .tc := ⟨.hbm, 61, rfl⟩
abbrev main_call1_v1 : Ref sig .tc := ⟨.hbm, 62, rfl⟩
abbrev main_call1_v2 : Ref sig .tc := ⟨.hbm, 63, rfl⟩
abbrev main_v25 : Ref sig .tc := ⟨.hbm, 64, rfl⟩
abbrev main_cst_2 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_call2_v0 : Ref sig .tc := ⟨.hbm, 70, rfl⟩
abbrev main_call2_cst : Ref sig .tc := ⟨.hbm, 71, rfl⟩
abbrev main_call2_v1 : Ref sig .tc := ⟨.hbm, 72, rfl⟩
abbrev main_call2_v2 : Ref sig .tc := ⟨.hbm, 73, rfl⟩
abbrev main_v30 : Ref sig .tc := ⟨.hbm, 74, rfl⟩
abbrev main_cst_3 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_call3_v0 : Ref sig .tc := ⟨.hbm, 82, rfl⟩
abbrev main_call3_cst : Ref sig .tc := ⟨.hbm, 83, rfl⟩
abbrev main_call3_v1 : Ref sig .tc := ⟨.hbm, 84, rfl⟩
abbrev main_call3_v2 : Ref sig .tc := ⟨.hbm, 85, rfl⟩
abbrev main_v37 : Ref sig .tc := ⟨.hbm, 86, rfl⟩
abbrev main_cst_4 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_call4_v0 : Ref sig .tc := ⟨.hbm, 92, rfl⟩
abbrev main_call4_cst : Ref sig .tc := ⟨.hbm, 93, rfl⟩
abbrev main_call4_v1 : Ref sig .tc := ⟨.hbm, 94, rfl⟩
abbrev main_call4_v2 : Ref sig .tc := ⟨.hbm, 95, rfl⟩
abbrev main_v42 : Ref sig .tc := ⟨.hbm, 96, rfl⟩
abbrev main_cst_5 : Ref sig .tc := ⟨.hbm, 97, rfl⟩
abbrev main_v43 : Ref sig .tc := ⟨.hbm, 98, rfl⟩
abbrev main_v44 : Ref sig .tc := ⟨.hbm, 99, rfl⟩
abbrev main_v45 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_values : Ref sig .tc := ⟨.hbm, 104, rfl⟩
abbrev main_indices : Ref sig .tc := ⟨.hbm, 105, rfl⟩
abbrev main_values_6 : Ref sig .tc := ⟨.hbm, 106, rfl⟩
abbrev main_indices_7 : Ref sig .tc := ⟨.hbm, 107, rfl⟩
abbrev main_v49 : Ref sig .tc := ⟨.hbm, 108, rfl⟩
abbrev main_v50 : Ref sig .tc := ⟨.hbm, 109, rfl⟩
abbrev main_v51 : Ref sig .tc := ⟨.hbm, 110, rfl⟩
abbrev main_v52 : Ref sig .tc := ⟨.hbm, 111, rfl⟩
abbrev main_v53 : Ref sig .tc := ⟨.hbm, 112, rfl⟩
abbrev main_v54 : Ref sig .tc := ⟨.hbm, 113, rfl⟩
abbrev main_v55 : Ref sig .tc := ⟨.hbm, 114, rfl⟩
abbrev main_c_8 : Ref sig .tc := ⟨.hbm, 115, rfl⟩
abbrev main_v56 : Ref sig .tc := ⟨.hbm, 116, rfl⟩
abbrev main_v57 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩
abbrev main_v61 : Ref sig .tc := ⟨.hbm, 121, rfl⟩
abbrev main_v62 : Ref sig .tc := ⟨.hbm, 122, rfl⟩
abbrev main_values_9 : Ref sig .tc := ⟨.hbm, 123, rfl⟩
abbrev main_indices_10 : Ref sig .tc := ⟨.hbm, 124, rfl⟩
abbrev main_call5_c : Ref sig .tc := ⟨.hbm, 125, rfl⟩
abbrev main_call5_v0 : Ref sig .tc := ⟨.hbm, 126, rfl⟩
abbrev main_call5_v1 : Ref sig .tc := ⟨.hbm, 127, rfl⟩
abbrev main_call5_c_0 : Ref sig .tc := ⟨.hbm, 128, rfl⟩
abbrev main_call5_v2 : Ref sig .tc := ⟨.hbm, 129, rfl⟩
abbrev main_call5_v3 : Ref sig .tc := ⟨.hbm, 130, rfl⟩
abbrev main_call5_v4 : Ref sig .tc := ⟨.hbm, 131, rfl⟩
abbrev main_call5_v5 : Ref sig .tc := ⟨.hbm, 132, rfl⟩
abbrev main_call5_c_1 : Ref sig .tc := ⟨.hbm, 133, rfl⟩
abbrev main_call5_c_2 : Ref sig .tc := ⟨.hbm, 134, rfl⟩
abbrev main_call5_v6 : Ref sig .tc := ⟨.hbm, 135, rfl⟩
abbrev main_call5_v7 : Ref sig .tc := ⟨.hbm, 136, rfl⟩
abbrev main_call5_v8 : Ref sig .tc := ⟨.hbm, 137, rfl⟩
abbrev main_call5_v9 : Ref sig .tc := ⟨.hbm, 138, rfl⟩
abbrev main_call5_v10 : Ref sig .tc := ⟨.hbm, 139, rfl⟩
abbrev main_call5_v11 : Ref sig .tc := ⟨.hbm, 140, rfl⟩
abbrev main_call5_c_3 : Ref sig .tc := ⟨.hbm, 141, rfl⟩
abbrev main_call5_v12 : Ref sig .tc := ⟨.hbm, 142, rfl⟩
abbrev main_call5_v13 : Ref sig .tc := ⟨.hbm, 143, rfl⟩
abbrev main_call5_v14 : Ref sig .tc := ⟨.hbm, 144, rfl⟩
abbrev main_call5_c_4 : Ref sig .tc := ⟨.hbm, 145, rfl⟩
abbrev main_call5_v15 : Ref sig .tc := ⟨.hbm, 146, rfl⟩
abbrev main_v63 : Ref sig .tc := ⟨.hbm, 147, rfl⟩
abbrev main_cst_11 : Ref sig .tc := ⟨.hbm, 148, rfl⟩
abbrev main_v64 : Ref sig .tc := ⟨.hbm, 149, rfl⟩
abbrev main_cst_12 : Ref sig .tc := ⟨.hbm, 150, rfl⟩
abbrev main_v65 : Ref sig .tc := ⟨.hbm, 151, rfl⟩
abbrev main_v66 : Ref sig .tc := ⟨.hbm, 152, rfl⟩
abbrev main_v67 : Ref sig .tc := ⟨.hbm, 153, rfl⟩
abbrev main_v68 : Ref sig .tc := ⟨.hbm, 154, rfl⟩
abbrev main_v69 : Ref sig .tc := ⟨.hbm, 155, rfl⟩
abbrev main_v70 : Ref sig .tc := ⟨.hbm, 156, rfl⟩
abbrev main_cst_13 : Ref sig .tc := ⟨.hbm, 157, rfl⟩
abbrev main_v71 : Ref sig .tc := ⟨.hbm, 158, rfl⟩
abbrev main_v72 : Ref sig .tc := ⟨.hbm, 159, rfl⟩
abbrev main_v73 : Ref sig .tc := ⟨.hbm, 160, rfl⟩
abbrev main_v74 : Ref sig .tc := ⟨.hbm, 161, rfl⟩
abbrev main_call6_c : Ref sig .tc := ⟨.hbm, 162, rfl⟩
abbrev main_call6_v0 : Ref sig .tc := ⟨.hbm, 163, rfl⟩
abbrev main_call6_v1 : Ref sig .tc := ⟨.hbm, 164, rfl⟩
abbrev main_call6_c_0 : Ref sig .tc := ⟨.hbm, 165, rfl⟩
abbrev main_call6_v2 : Ref sig .tc := ⟨.hbm, 166, rfl⟩
abbrev main_call6_v3 : Ref sig .tc := ⟨.hbm, 167, rfl⟩
abbrev main_call6_v4 : Ref sig .tc := ⟨.hbm, 168, rfl⟩
abbrev main_call6_v5 : Ref sig .tc := ⟨.hbm, 169, rfl⟩
abbrev main_call6_c_1 : Ref sig .tc := ⟨.hbm, 170, rfl⟩
abbrev main_call6_c_2 : Ref sig .tc := ⟨.hbm, 171, rfl⟩
abbrev main_call6_v6 : Ref sig .tc := ⟨.hbm, 172, rfl⟩
abbrev main_call6_v7 : Ref sig .tc := ⟨.hbm, 173, rfl⟩
abbrev main_call6_v8 : Ref sig .tc := ⟨.hbm, 174, rfl⟩
abbrev main_call6_v9 : Ref sig .tc := ⟨.hbm, 175, rfl⟩
abbrev main_call6_v10 : Ref sig .tc := ⟨.hbm, 176, rfl⟩
abbrev main_call6_v11 : Ref sig .tc := ⟨.hbm, 177, rfl⟩
abbrev main_call6_c_3 : Ref sig .tc := ⟨.hbm, 178, rfl⟩
abbrev main_call6_v12 : Ref sig .tc := ⟨.hbm, 179, rfl⟩
abbrev main_call6_v13 : Ref sig .tc := ⟨.hbm, 180, rfl⟩
abbrev main_call6_v14 : Ref sig .tc := ⟨.hbm, 181, rfl⟩
abbrev main_call6_cst : Ref sig .tc := ⟨.hbm, 182, rfl⟩
abbrev main_call6_v15 : Ref sig .tc := ⟨.hbm, 183, rfl⟩
abbrev main_v75 : Ref sig .tc := ⟨.hbm, 184, rfl⟩
abbrev main_v76 : Ref sig .tc := ⟨.hbm, 185, rfl⟩
abbrev main_cst_14 : Ref sig .tc := ⟨.hbm, 186, rfl⟩
abbrev main_v77 : Ref sig .tc := ⟨.hbm, 187, rfl⟩
abbrev main_v78 : Ref sig .tc := ⟨.hbm, 188, rfl⟩
abbrev main_v79 : Ref sig .tc := ⟨.hbm, 189, rfl⟩
abbrev main_cst_15 : Ref sig .tc := ⟨.hbm, 190, rfl⟩
abbrev main_v80 : Ref sig .tc := ⟨.hbm, 191, rfl⟩
abbrev main_v81 : Ref sig .tc := ⟨.hbm, 192, rfl⟩
abbrev main_v82 : Ref sig .tc := ⟨.hbm, 193, rfl⟩
abbrev main_v83 : Ref sig .tc := ⟨.hbm, 194, rfl⟩
abbrev main_v84 : Ref sig .tc := ⟨.hbm, 195, rfl⟩
abbrev main_call7_c : Ref sig .tc := ⟨.hbm, 196, rfl⟩
abbrev main_call7_v0 : Ref sig .tc := ⟨.hbm, 197, rfl⟩
abbrev main_call7_v1 : Ref sig .tc := ⟨.hbm, 198, rfl⟩
abbrev main_call7_c_0 : Ref sig .tc := ⟨.hbm, 199, rfl⟩
abbrev main_call7_v2 : Ref sig .tc := ⟨.hbm, 200, rfl⟩
abbrev main_call7_v3 : Ref sig .tc := ⟨.hbm, 201, rfl⟩
abbrev main_call7_v4 : Ref sig .tc := ⟨.hbm, 202, rfl⟩
abbrev main_call7_v5 : Ref sig .tc := ⟨.hbm, 203, rfl⟩
abbrev main_call7_c_1 : Ref sig .tc := ⟨.hbm, 204, rfl⟩
abbrev main_call7_c_2 : Ref sig .tc := ⟨.hbm, 205, rfl⟩
abbrev main_call7_v6 : Ref sig .tc := ⟨.hbm, 206, rfl⟩
abbrev main_call7_v7 : Ref sig .tc := ⟨.hbm, 207, rfl⟩
abbrev main_call7_v8 : Ref sig .tc := ⟨.hbm, 208, rfl⟩
abbrev main_call7_v9 : Ref sig .tc := ⟨.hbm, 209, rfl⟩
abbrev main_call7_v10 : Ref sig .tc := ⟨.hbm, 210, rfl⟩
abbrev main_call7_v11 : Ref sig .tc := ⟨.hbm, 211, rfl⟩
abbrev main_call7_c_3 : Ref sig .tc := ⟨.hbm, 212, rfl⟩
abbrev main_call7_v12 : Ref sig .tc := ⟨.hbm, 213, rfl⟩
abbrev main_call7_v13 : Ref sig .tc := ⟨.hbm, 214, rfl⟩
abbrev main_call7_v14 : Ref sig .tc := ⟨.hbm, 215, rfl⟩
abbrev main_call7_cst : Ref sig .tc := ⟨.hbm, 216, rfl⟩
abbrev main_call7_v15 : Ref sig .tc := ⟨.hbm, 217, rfl⟩
abbrev main_v85 : Ref sig .tc := ⟨.hbm, 218, rfl⟩
abbrev main_v86 : Ref sig .tc := ⟨.hbm, 219, rfl⟩
abbrev main_v87 : Ref sig .tc := ⟨.hbm, 220, rfl⟩

abbrev nD : Nat := 1
abbrev τ : Topo := Topo.v7x

variable {F : FTy → Type} [FloatOps F]
-- ==== Proof.Frames.lean ====
/-
The three programs run to their end from any arguments, leave the arguments as they were and every counter at zero.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_plain_norm
public import Idealize.ShloMosaic.Lib.Claim

@[expose] public section

noncomputable section

namespace Cert.Frames

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_plain_norm.Facts := Cert.Pre_plain_norm.Gen.facts

/-- The kernel's frame. -/
theorem kernel : Cert.quiescent_Kernel := fun m ρ _ => Cert.Kernel.Gen.frame m ρ

/-- The idealized kernel's frame. -/
theorem kernelIdeal : Cert.quiescent_KernelIdeal := fun m ρ _ => Cert.KernelIdeal.Gen.frame m ρ

/-- The reference's frame. -/
theorem referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same two, stated where the precondition holds. -/
theorem kernelIdeal_plain : Cert.quiescent_KernelIdeal_pre_plain_norm := fun m ρ _ => kernelIdeal m ρ trivial
/-- The reference's frame, where the precondition holds. -/
theorem referenceIdeal_plain : Cert.quiescent_ReferenceIdeal_pre_plain_norm := fun m ρ _ => referenceIdeal m ρ trivial

end Cert.Frames

end
-- ==== Proof.Body.lean ====
/-
The kernel's body, written as its mathematics reads: the queries of a block of tokens, one head's normalised
scores, the rounds that take the largest eight rows of an array, the twenty-four pruned candidates, and one
expert's contribution. The value the kernel stores is this one (`BodyEq.lean`).
-/
module

public import proofs.«01_k».proof.Proof.Gen.KernelIdeal.Frame

@[expose] public section

noncomputable section

namespace Cert.KernelIdeal.Body

open Idealize.ShloMosaic Cert.KernelIdeal Cert.KernelIdeal.Gen

variable {F : FTy → Type} [FloatOps F]

/-- `n` rows of 512 columns. -/
abbrev Cols (n : ℕ) : Shape := ⟨2, ![n, 512]⟩

/-- What the rounds over `n` rows need of the shapes. -/
structure RowFacts (n : ℕ) : Prop where
  hr : (Cols n).Reduces [0] S512
  hb : S1x512.Broadcasts (Cols n)
  hi : (Cols n).Iotas .tc 32 [0]

/-- The shape facts of 128 rows. -/
theorem rows128 : RowFacts 128 := ⟨reduces_S128x512_S512, broadcasts_S1x512_S128x512, iota_S128x512_d0_w32⟩
/-- The shape facts of 24 rows. -/
theorem rows24 : RowFacts 24 := ⟨reduces_S24x512_S512, broadcasts_S1x512_S24x512, iota_S24x512_d0_w32⟩

/-- Every entry is its row's number, as a float. -/
def rowNo {n : ℕ} (W : RowFacts n) : FVec F (Cols n) .f32 := sitofp .f32 (iota .tc (Cols n) 32 [0] W.hi)

/-- The largest entry of each column. -/
def colMax {n : ℕ} (W : RowFacts n) (v : FVec F (Cols n) .f32) : FVec F S1x512 .f32 :=
  shapeCast S1x512 (multiReduction .maximumf [0] S512 v 0xFF800000#32 W.hr (.inl rfl) rfl) shapeCasts_S512_S1x512

/-- The first row at which each column's largest entry lies (`w` is the filler of the other rows). -/
def colArg {n : ℕ} (W : RowFacts n) (w : BitVec 32) (v : FVec F (Cols n) .f32) : FVec F S1x512 .f32 :=
  shapeCast S1x512
    (multiReduction .minimumf [0] S512
      (select (cmpf .oeq v (broadcastTo (Cols n) (colMax W v) W.hb)) (rowNo W) (broadcast (Cols n) (Scalar.ofBits .f32 w)))
      0x7F800000#32 W.hr (.inl rfl) rfl)
    shapeCasts_S512_S1x512

/-- The entry just taken is struck out of each column. -/
def strike {n : ℕ} (W : RowFacts n) (w : BitVec 32) (v : FVec F (Cols n) .f32) : FVec F (Cols n) .f32 :=
  select (cmpf .oeq (rowNo W) (broadcastTo (Cols n) (colArg W w v) W.hb))
    (broadcast (Cols n) (Scalar.ofBits .f32 0xFF800000#32)) v

/-- What is left after `k` rounds. -/
def left {n : ℕ} (W : RowFacts n) (w : BitVec 32) (v : FVec F (Cols n) .f32) (k : ℕ) : FVec F (Cols n) .f32 :=
  Nat.rec v (fun _ u => strike W w u) k

/-- The value that round `k` takes. -/
def topVal {n : ℕ} (W : RowFacts n) (w : BitVec 32) (v : FVec F (Cols n) .f32) (k : ℕ) : FVec F S1x512 .f32 :=
  colMax W (left W w v k)

/-- The row that round `k` takes. -/
def topRow {n : ℕ} (W : RowFacts n) (w : BitVec 32) (v : FVec F (Cols n) .f32) (k : ℕ) : FVec F S1x512 .f32 :=
  colArg W w (left W w v k)

/-- The queries of the block, one column per token. -/
def queries (x : FVec F S512x768 .f32) (wq : FVec F S2048x768 .f32) : FVec F S2048x512 .f32 :=
  matmul dot_S2048x768_S512x768_S2048x512_1_1_0_0_n_n none (shapeCast S2048x768 wq shapeCasts_S2048x768_S2048x768)
    (shapeCast S512x768 x shapeCasts_S512x768_S512x768) (constant S2048x512 .f32 0x00000000#32)

/-- Each row of a key matrix divided by its length. -/
def keyUnit (v : FVec F S128x128 .f32) : FVec F S128x128 .f32 :=
  divf v (broadcastTo S128x128
    (maximumf (sqrt (shapeCast S128x1
        (multiReduction .add [1] S128 (mulf v v) 0x00000000#32 reduces_S128x128_S128 (.inl rfl) rfl) shapeCasts_S128_S128x1))
      (broadcast S128x1 (Scalar.ofBits .f32 0x2B8CBCCC#32)))
    broadcasts_S128x1_S128x128)

/-- Each column of half a head's query divided by its length. -/
def colUnit (v : FVec F S128x512 .f32) : FVec F S128x512 .f32 :=
  divf v (broadcastTo S128x512
    (maximumf (sqrt (shapeCast S1x512
        (multiReduction .add [0] S512 (mulf v v) 0x00000000#32 reduces_S128x512_S512 (.inl rfl) rfl) shapeCasts_S512_S1x512))
      (broadcast S1x512 (Scalar.ofBits .f32 0x2B8CBCCC#32)))
    broadcasts_S1x512_S128x512)

/-- The mean of each column of a head's query. -/
def colMean (v : FVec F S256x512 .f32) : FVec F S1x512 .f32 :=
  divf (shapeCast S1x512 (multiReduction .add [0] S512 v 0x00000000#32 reduces_S256x512_S512 (.inl rfl) rfl)
    shapeCasts_S512_S1x512) (broadcast S1x512 (Scalar.ofBits .f32 0x43800000#32))

/-- Each column less its mean. -/
def centre (v : FVec F S256x512 .f32) : FVec F S256x512 .f32 :=
  subf v (broadcastTo S256x512 (colMean v) broadcasts_S1x512_S256x512)

/-- Each centred column times the reciprocal root of its variance. -/
def norm (v : FVec F S256x512 .f32) : FVec F S256x512 .f32 :=
  mulf (centre v) (broadcastTo S256x512
    (rsqrt (addf (colMean (mulf (centre v) (centre v))) (broadcast S1x512 (Scalar.ofBits .f32 0x3727C5AC#32))))
    broadcasts_S1x512_S256x512)

/-- The scores of the first 128 keys. -/
def score0 (keys : FVec F S128x128 .f32) (q : FVec F S256x512 .f32) : FVec F S128x512 .f32 :=
  matmul dot_S128x128_S128x512_S128x512_1_0_0_1_n_n none (keyUnit keys)
    (colUnit (extractStridedSlice S128x512 ![0, 0] (norm q) slices_S256x512_o0_0_S128x512)) (constant S128x512 .f32 0x00000000#32)

/-- The scores of the second 128 keys. -/
def score1 (keys : FVec F S128x128 .f32) (q : FVec F S256x512 .f32) : FVec F S128x512 .f32 :=
  matmul dot_S128x128_S128x512_S128x512_1_0_0_1_n_n none (keyUnit keys)
    (colUnit (extractStridedSlice S128x512 ![128, 0] (norm q) slices_S256x512_o128_0_S128x512)) (constant S128x512 .f32 0x00000000#32)

/-- Eight rows, one under the other. -/
def stack8 (f : ℕ → FVec F S1x512 .f32) : FVec F S8x512 .f32 :=
  concatenate S8x512 0 [⟨S1x512, f 0⟩, ⟨S1x512, f 1⟩, ⟨S1x512, f 2⟩, ⟨S1x512, f 3⟩, ⟨S1x512, f 4⟩, ⟨S1x512, f 5⟩,
    ⟨S1x512, f 6⟩, ⟨S1x512, f 7⟩]
    concatenates_S1x512_S1x512_S1x512_S1x512_S1x512_S1x512_S1x512_S1x512_S8x512_d0

/-- The pruned sums of one of the first eight and one of the second eight, filled up to 24 rows with `z`. -/
def pruned (f g : ℕ → FVec F S1x512 .f32) (z : BitVec 32) : FVec F S24x512 .f32 :=
  concatenate S24x512 0
    [⟨S8x512, addf (broadcastTo S8x512 (f 0) broadcasts_S1x512_S8x512) (stack8 g)⟩,
     ⟨S4x512, addf (broadcastTo S4x512 (f 1) broadcasts_S1x512_S4x512)
        (extractStridedSlice S4x512 ![0, 0] (stack8 g) slices_S8x512_o0_0_S4x512)⟩,
     ⟨S2x512, addf (broadcastTo S2x512 (f 2) broadcasts_S1x512_S2x512)
        (extractStridedSlice S2x512 ![0, 0] (stack8 g) slices_S8x512_o0_0_S2x512)⟩,
     ⟨S2x512, addf (broadcastTo S2x512 (f 3) broadcasts_S1x512_S2x512)
        (extractStridedSlice S2x512 ![0, 0] (stack8 g) slices_S8x512_o0_0_S2x512)⟩,
     ⟨S1x512, addf (f 4) (g 0)⟩, ⟨S1x512, addf (f 5) (g 0)⟩, ⟨S1x512, addf (f 6) (g 0)⟩, ⟨S1x512, addf (f 7) (g 0)⟩,
     ⟨S4x512, broadcast S4x512 (Scalar.ofBits .f32 z)⟩]
    concatenates_S8x512_S4x512_S2x512_S2x512_S1x512_S1x512_S1x512_S1x512_S4x512_S24x512_d0

/-- Every entry is its row's number, as the experts are compared. -/
def expertNo : FVec F S256x512 .bf16 := sitofp .bf16 (iota .tc S256x512 32 [0] iota_S256x512_d0_w32)

/-- Every expert's product with every token of the block. -/
def dense (x : FVec F S512x768 .f32) (ed : FVec F S256x768 .f32) : FVec F S256x512 .bf16 :=
  truncf .bf16 (matmul dot_S256x768_S512x768_S256x512_1_1_0_0_n_n none ed
    (shapeCast S512x768 x shapeCasts_S512x768_S512x768) (constant S256x512 .f32 0x00000000#32)) bitsLt_bf16_f32

/-- The expert at the candidate row `pos` of each column. -/
def expertAt (pos : FVec F S1x512 .f32) (cand : FVec F S24x512 .f32) : FVec F S1x512 .bf16 :=
  truncf .bf16 (shapeCast S1x512
    (multiReduction .add [0] S512
      (select (cmpf .oeq (rowNo rows24) (broadcastTo S24x512 pos broadcasts_S1x512_S24x512)) cand
        (broadcast S24x512 (Scalar.ofBits .f32 0x00000000#32)))
      0x00000000#32 reduces_S24x512_S512 (.inl rfl) rfl) shapeCasts_S512_S1x512) bitsLt_bf16_f32

/-- The rows that are the expert `e` of each column. -/
def isExpert (e : FVec F S1x512 .bf16) : IVec S256x512 1 :=
  cmpf .oeq (broadcastTo S256x512 e broadcasts_S1x512_S256x512) (expertNo (F := F))

/-- The product of the expert `e` of each column with the column's token. -/
def down (e : FVec F S1x512 .bf16) (d : FVec F S256x512 .bf16) : FVec F S1x512 .f32 :=
  extf .f32 (truncf .bf16 (shapeCast S1x512
    (multiReduction .add [0] S512
      (extf .f32 (select (isExpert e) d (broadcast S256x512 (Scalar.ofBits .bf16 0x0000#16))) bitsLt_bf16_f32)
      0x00000000#32 reduces_S256x512_S512 (.inl rfl) rfl) shapeCasts_S512_S1x512) bitsLt_bf16_f32) bitsLt_bf16_f32

/-- The activation of the product `u`, times the weight `g`. -/
def weight (u g : FVec F S1x512 .f32) : FVec F S1x512 .bf16 :=
  truncf .bf16 (mulf (mulf (mulf (broadcast S1x512 (Scalar.ofBits .f32 0x3F000000#32)) u)
    (addf (broadcast S1x512 (Scalar.ofBits .f32 0x3F800000#32))
      (erf (mulf u (broadcast S1x512 (Scalar.ofBits .f32 0x3F3504F3#32)))))) g) bitsLt_bf16_f32

/-- The weight laid on the expert's row. -/
def spread (e : FVec F S1x512 .bf16) (w : FVec F S1x512 .bf16) : FVec F S256x512 .bf16 :=
  select (isExpert e)
    (broadcastTo S256x512 (shapeCast S1x512 w shapeCasts_S1x512_S1x512) broadcasts_S1x512_S256x512)
    (broadcast S256x512 (Scalar.ofBits .bf16 0x0000#16))

/-- The exponential of the `k`-th of the chosen scores, less the largest. -/
def expo (comb : FVec F S24x512 .f32) (k : ℕ) : FVec F S1x512 .f32 :=
  exp (subf (topVal rows24 0x41C00000#32 comb k) (topVal rows24 0x41C00000#32 comb 0))

/-- One over the sum of the eight exponentials. -/
def invSum (comb : FVec F S24x512 .f32) : FVec F S1x512 .f32 :=
  divf (broadcast S1x512 (Scalar.ofBits .f32 0x3F800000#32))
    (addf (addf (addf (addf (addf (addf (addf (expo comb 0) (expo comb 1)) (expo comb 2)) (expo comb 3)) (expo comb 4))
      (expo comb 5)) (expo comb 6)) (expo comb 7))

/-- The expert of slot `k`. -/
def slotExpert (comb cand : FVec F S24x512 .f32) (k : ℕ) : FVec F S1x512 .bf16 :=
  expertAt (topRow rows24 0x41C00000#32 comb k) cand

/-- What slot `k` adds, on its expert's row. -/
def slot (d : FVec F S256x512 .bf16) (comb cand : FVec F S24x512 .f32) (k : ℕ) : FVec F S256x512 .bf16 :=
  spread (slotExpert comb cand k)
    (weight (down (slotExpert comb cand k) d) (mulf (expo comb k) (invSum comb)))

/-- The eight slots of one head added to `acc`. -/
def slots (d : FVec F S256x512 .bf16) (comb cand : FVec F S24x512 .f32) (acc : FVec F S256x512 .bf16) : FVec F S256x512 .bf16 :=
  Nat.rec acc (fun k a => addf a (slot d comb cand k)) 8

/-- The candidates' scores, from the two halves' scores. -/
def combOf (s0 s1 : FVec F S128x512 .f32) : FVec F S24x512 .f32 :=
  pruned (topVal rows128 0x43000000#32 s0) (topVal rows128 0x43000000#32 s1) 0xFF800000#32

/-- The candidates' experts, from the two halves' scores. -/
def candOf (s0 s1 : FVec F S128x512 .f32) : FVec F S24x512 .f32 :=
  pruned (topRow rows128 0x43000000#32 s0) (topRow rows128 0x43000000#32 s1) 0x00000000#32

/-- One head's query. -/
def headQuery (q : FVec F S2048x512 .f32) (h : ℕ) (hs : S2048x512.Slices ![256 * h, 0] S256x512) : FVec F S256x512 .f32 :=
  extractStridedSlice S256x512 ![256 * h, 0] q hs

/-- One head added to `acc`. -/
def head (q : FVec F S2048x512 .f32) (k0 k1 : FVec F S128x128 .f32) (d : FVec F S256x512 .bf16)
    (h : ℕ) (hs : S2048x512.Slices ![256 * h, 0] S256x512) (acc : FVec F S256x512 .bf16) : FVec F S256x512 .bf16 :=
  slots d (combOf (score0 k0 (headQuery q h hs)) (score1 k1 (headQuery q h hs)))
    (candOf (score0 k0 (headQuery q h hs)) (score1 k1 (headQuery q h hs))) acc

/-- The eight heads' sum. -/
def heads (q : FVec F S2048x512 .f32) (k0 k1 : FVec F S128x128 .f32) (d : FVec F S256x512 .bf16) : FVec F S256x512 .bf16 :=
  head q k0 k1 d 7 slices_S2048x512_o1792_0_S256x512 <| head q k0 k1 d 6 slices_S2048x512_o1536_0_S256x512 <|
  head q k0 k1 d 5 slices_S2048x512_o1280_0_S256x512 <| head q k0 k1 d 4 slices_S2048x512_o1024_0_S256x512 <|
  head q k0 k1 d 3 slices_S2048x512_o768_0_S256x512 <| head q k0 k1 d 2 slices_S2048x512_o512_0_S256x512 <|
  head q k0 k1 d 1 slices_S2048x512_o256_0_S256x512 <| head q k0 k1 d 0 slices_S2048x512_o0_0_S256x512 <|
  broadcast S256x512 (Scalar.ofBits .bf16 0x0000#16)

/-- What the body stores. -/
def result (x : FVec F S512x768 .f32) (wq : FVec F S2048x768 .f32) (k0 k1 : FVec F S128x128 .f32)
    (ed eu : FVec F S256x768 .f32) : FVec F S512x768 .f32 :=
  matmul dot_S256x512_S256x768_S512x768_0_0_1_1_n_n none (heads (queries x wq) k0 k1 (dense x ed)) eu
    (constant S512x768 .f32 0x00000000#32)

end Cert.KernelIdeal.Body
-- ==== Proof.BodyEq.lean ====
/-
The value that the kernel's body stores is the block's computation of `Body.lean`: both are the same operations, so the
equation holds by unfolding.
-/
module

public import proofs.«01_k».proof.Proof.Body

@[expose] public section

set_option maxRecDepth 100000
set_option maxHeartbeats 0

noncomputable section

namespace Cert.KernelIdeal.Body

open Idealize.ShloMosaic Cert.KernelIdeal Cert.KernelIdeal.Gen

variable {F : FTy → Type} [FloatOps F]

/-- What the body stores, a function of the six input blocks, is `result` of them, stored over the whole output
block. -/
theorem out_eq (x0 : Vec F S512x768 .f32) (x1 : Vec F S2048x768 .f32) (x2 x3 : Vec F S128x128 .f32)
    (x4 x5 : Vec F S256x768 .f32) :
    out0_6 x0 x1 x2 x3 x4 x5 = View.canon [⟨r0_0, result (View.ld x0 r0_0) (View.ld x1 r0_1) (View.ld x2 r0_2)
      (View.ld x3 r0_2) (View.ld x4 r0_3) (View.ld x5 r0_3)⟩] := rfl

end Cert.KernelIdeal.Body
-- ==== Proof.Rank.lean ====
/-
The order in which a top-k takes the entries of a column: the greater value first, and of equal values the one
at the smaller position. `rank x i` counts the entries that come before entry `i`; `nth x k` is the entry of
rank `k`.
-/
module

public import Idealize.ShloMosaic.Lib.SortFacts
public import Idealize.ShloMosaic.PureOps.Ideal.Laws

@[expose] public section

noncomputable section

open Finset
open scoped Classical

namespace Cert.Rank

variable {n : ℕ}

/-- Entry `i` comes before entry `j`. -/
def Before (x : Fin n → EReal) (i j : Fin n) : Prop := x j < x i ∨ (x i = x j ∧ i < j)

/-- No entry comes before itself. -/
theorem not_before_self (x : Fin n → EReal) (i : Fin n) : ¬ Before x i i := by
  rintro (h | ⟨_, h⟩)
  · exact lt_irrefl _ h
  · exact lt_irrefl _ h

/-- The order is transitive. -/
theorem Before.trans {x : Fin n → EReal} {i j k : Fin n} (h : Before x i j) (h' : Before x j k) : Before x i k := by
  rcases h with h | ⟨e, h⟩ <;> rcases h' with h' | ⟨e', h'⟩
  · exact .inl (h'.trans h)
  · exact .inl (e' ▸ h)
  · exact .inl (e ▸ h')
  · exact .inr ⟨e.trans e', h.trans h'⟩

/-- Of two entries one comes before the other. -/
theorem before_or {x : Fin n → EReal} {i j : Fin n} (h : i ≠ j) : Before x i j ∨ Before x j i := by
  rcases lt_trichotomy (x i) (x j) with h1 | h1 | h1
  · exact .inr (.inl h1)
  · rcases lt_or_gt_of_ne h with h2 | h2
    · exact .inl (.inr ⟨h1, h2⟩)
    · exact .inr (.inr ⟨h1.symm, h2⟩)
  · exact .inl (.inl h1)

/-- An entry that comes before another is not less. -/
theorem Before.le {x : Fin n → EReal} {i j : Fin n} (h : Before x i j) : x j ≤ x i := by
  rcases h with h | ⟨e, _⟩
  · exact h.le
  · exact e.ge

/-- How many entries come before entry `i`. -/
def rank (x : Fin n → EReal) (i : Fin n) : ℕ := (univ.filter fun j => Before x j i).card

/-- An entry that comes before another has the smaller rank. -/
theorem rank_lt_rank {x : Fin n → EReal} {i j : Fin n} (h : Before x i j) : rank x i < rank x j := by
  refine card_lt_card ⟨fun k hk => ?_, fun hs => ?_⟩
  · simp only [mem_filter, mem_univ, true_and] at hk ⊢
    exact hk.trans h
  · have : i ∈ univ.filter fun k => Before x k i := hs (by simpa using h)
    simp only [mem_filter, mem_univ, true_and] at this
    exact not_before_self x i this

/-- The order is that of the ranks. -/
theorem before_iff {x : Fin n → EReal} {i j : Fin n} : Before x i j ↔ rank x i < rank x j := by
  refine ⟨rank_lt_rank, fun h => ?_⟩
  by_contra hb
  by_cases e : i = j
  · subst e; exact lt_irrefl _ h
  · rcases before_or (x := x) e with h' | h'
    · exact hb h'
    · exact lt_asymm h (rank_lt_rank h')

/-- Different entries have different ranks. -/
theorem rank_inj {x : Fin n → EReal} {i j : Fin n} (h : rank x i = rank x j) : i = j := by
  by_contra e
  rcases before_or (x := x) e with h' | h'
  · exact absurd (rank_lt_rank h') (by omega)
  · exact absurd (rank_lt_rank h') (by omega)

/-- A rank is less than the number of entries. -/
theorem rank_lt (x : Fin n → EReal) (i : Fin n) : rank x i < n := by
  have : (univ.filter fun j => Before x j i) ⊂ (univ : Finset (Fin n)) :=
    ⟨subset_univ _, fun h => not_before_self x i (by simpa using h (mem_univ i))⟩
  simpa [rank] using card_lt_card this

/-- Every rank is some entry's. -/
theorem exists_rank (x : Fin n → EReal) (k : ℕ) (hk : k < n) : ∃ i, rank x i = k := by
  have hinj : Function.Injective fun i : Fin n => (⟨rank x i, rank_lt x i⟩ : Fin n) := fun i j h =>
    rank_inj (congrArg Fin.val h)
  obtain ⟨i, hi⟩ := (Finite.injective_iff_surjective.mp hinj) ⟨k, hk⟩
  exact ⟨i, congrArg Fin.val hi⟩

/-- The entry of rank `k`. -/
def nth (x : Fin n → EReal) (k : ℕ) (hk : k < n) : Fin n := (exists_rank x k hk).choose

/-- `nth x k` has rank `k`. -/
theorem rank_nth (x : Fin n → EReal) (k : ℕ) (hk : k < n) : rank x (nth x k hk) = k := (exists_rank x k hk).choose_spec

/-- The entry of rank `k` is `nth x k`. -/
theorem eq_nth {x : Fin n → EReal} {i : Fin n} {k : ℕ} (hk : k < n) (h : rank x i = k) : i = nth x k hk :=
  rank_inj (h.trans (rank_nth x k hk).symm)

/-- The values fall with the rank. -/
theorem nth_le (x : Fin n → EReal) {k l : ℕ} (hk : k < n) (hl : l < n) (h : k ≤ l) : x (nth x l hl) ≤ x (nth x k hk) := by
  rcases h.lt_or_eq with h | rfl
  · exact (before_iff.mpr (by rw [rank_nth, rank_nth]; exact h)).le
  · exact le_rfl

/-- The entry of rank zero is the largest. -/
theorem le_nth_zero (x : Fin n → EReal) (h0 : 0 < n) (i : Fin n) : x i ≤ x (nth x 0 h0) := by
  by_cases e : i = nth x 0 h0
  · rw [e]
  · refine (before_iff.mpr ?_ : Before x (nth x 0 h0) i).le
    rw [rank_nth]
    exact Nat.pos_of_ne_zero fun h => e (eq_nth h0 h)

/-! ## By rounds -/

/-- What is left of the column after `k` rounds: the entries of rank below `k` are struck out. -/
def leftOf (x : Fin n → EReal) (k : ℕ) (i : Fin n) : EReal := if rank x i < k then ⊥ else x i

/-- Before the first round nothing is struck. -/
theorem leftOf_zero (x : Fin n → EReal) : leftOf x 0 = x := by
  funext i; simp [leftOf]

/-- Striking out the entry of rank `k` is one more round. -/
theorem leftOf_succ (x : Fin n → EReal) (k : ℕ) (hk : k < n) (i : Fin n) :
    (if i = nth x k hk then ⊥ else leftOf x k i) = leftOf x (k + 1) i := by
  unfold leftOf
  by_cases e : i = nth x k hk
  · rw [if_pos e, if_pos (by rw [e, rank_nth]; omega)]
  · rw [if_neg e]
    have : rank x i ≠ k := fun h => e (eq_nth hk h)
    by_cases h : rank x i < k
    · rw [if_pos h, if_pos (by omega)]
    · rw [if_neg h, if_neg (by omega)]

/-- After `k` rounds the entry of rank `k` is left. -/
theorem leftOf_nth (x : Fin n → EReal) (k : ℕ) (hk : k < n) : leftOf x k (nth x k hk) = x (nth x k hk) := by
  unfold leftOf
  rw [if_neg (by rw [rank_nth]; omega)]

/-- After `k` rounds it is the largest. -/
theorem leftOf_le (x : Fin n → EReal) (k : ℕ) (hk : k < n) (i : Fin n) : leftOf x k i ≤ x (nth x k hk) := by
  unfold leftOf
  split
  · exact bot_le
  · rename_i h
    have h' := nth_le x hk (rank_lt x i) (by omega)
    rwa [← eq_nth (rank_lt x i) rfl] at h'

/-- The largest entry left after `k` rounds is the one of rank `k`. -/
theorem sup_leftOf (x : Fin n → EReal) (k : ℕ) (hk : k < n) : univ.sup (leftOf x k) = x (nth x k hk) :=
  le_antisymm (Finset.sup_le fun i _ => leftOf_le x k hk i) (leftOf_nth x k hk ▸ Finset.le_sup (mem_univ _))

/-- The first position that holds it is that entry's (the entry of rank `k` being above `⊥`). -/
theorem first_leftOf (x : Fin n → EReal) (k : ℕ) (hk : k < n) (hb : ⊥ < x (nth x k hk)) (w : EReal)
    (hw : ((n : ℕ) : EReal) ≤ w) :
    (univ.inf fun i : Fin n => if leftOf x k i = x (nth x k hk) then (((i : ℕ) : ℝ) : EReal) else w)
      = (((nth x k hk : ℕ) : ℝ) : EReal) := by
  refine le_antisymm ?_ (Finset.le_inf fun i _ => ?_)
  · refine (Finset.inf_le (mem_univ (nth x k hk))).trans ?_
    rw [if_pos (leftOf_nth x k hk)]
  · split
    · rename_i h
      unfold leftOf at h
      split at h
      · exact absurd h hb.ne
      · rename_i hr
        by_cases e : i = nth x k hk
        · rw [e]
        · have hbf : Before x (nth x k hk) i := before_iff.mpr (by
            rw [rank_nth]; exact lt_of_le_of_ne (by omega) fun h' => e (eq_nth hk h'.symm))
          rcases hbf with h' | ⟨_, h'⟩
          · exact absurd h h'.ne
          · exact_mod_cast h'.le
    · refine le_trans ?_ hw
      have := (nth x k hk).isLt
      exact_mod_cast this.le

/-! ## By sorting -/

open Idealize.ShloMosaic

/-- An insertion's members are the list's and the inserted one. -/
theorem mem_insertBefore' {ι : Type} (R : ι → ι → Bool) (a b : ι) (l : List ι) :
    b ∈ insertBefore R a l ↔ b = a ∨ b ∈ l := by
  rw [(perm_insertBefore R a l).mem_iff, List.mem_cons]

/-- Inserting a position smaller than all of the list's keeps the list in order. -/
theorem pairwise_insert (x : Fin n → EReal) (a : Fin n) (l : List (Fin n)) (ha : ∀ b ∈ l, a < b)
    (hl : l.Pairwise (Before x)) : (insertBefore (fun i j => decide (x j < x i)) a l).Pairwise (Before x) := by
  induction l with
  | nil => exact List.pairwise_singleton _ _
  | cons b l ih =>
    have hb : ∀ c ∈ l, Before x b c := (List.pairwise_cons.mp hl).1
    unfold insertBefore
    split
    · rename_i h
      refine List.pairwise_cons.mpr ⟨fun c hc => ?_, ih (fun c hc => ha c (List.mem_cons_of_mem _ hc)) (List.pairwise_cons.mp hl).2⟩
      rcases (mem_insertBefore' _ _ _ _).mp hc with rfl | hc
      · exact .inl (by simpa using h)
      · exact hb c hc
    · rename_i h
      have hab : Before x a b := by
        rcases (not_lt.mp (by simpa using h) : x b ≤ x a).lt_or_eq with h' | h'
        · exact .inl h'
        · exact .inr ⟨h'.symm, ha b List.mem_cons_self⟩
      refine List.pairwise_cons.mpr ⟨fun c hc => ?_, hl⟩
      rcases List.mem_cons.mp hc with rfl | hc
      · exact hab
      · exact hab.trans (hb c hc)

/-- The stable sort by falling value lists the entries in the order. -/
theorem pairwise_stableSort' (x : Fin n → EReal) (l : List (Fin n)) (hl : l.Pairwise (· < ·)) :
    (stableSort (fun i j => decide (x j < x i)) l).Pairwise (Before x) := by
  induction l with
  | nil => exact List.Pairwise.nil
  | cons a l ih =>
    have h := List.pairwise_cons.mp hl
    exact pairwise_insert x a _ (fun b hb => h.1 b ((perm_stableSort _ l).mem_iff.mp hb)) (ih h.2)

/-- The `k`-th position of the stable sort, greater values first, is the entry of rank `k`. -/
theorem sortedFrom_eq_nth (x : Fin n → EReal) (k : Fin n) :
    sortedFrom (fun i j => decide (x j < x i)) k = nth x k k.isLt := by
  set σ := sortedFrom (fun i j => decide (x j < x i)) with hσ
  have hmono : ∀ i j : Fin n, i < j → Before x (σ i) (σ j) := by
    intro i j hij
    have h := List.pairwise_iff_get.mp (pairwise_stableSort' x (List.finRange n) (List.pairwise_lt_finRange n))
    exact h _ _ hij
  have hiff : ∀ i j : Fin n, Before x (σ i) (σ j) ↔ i < j := by
    intro i j
    refine ⟨fun h => ?_, hmono i j⟩
    by_contra hn
    rcases (not_lt.mp hn).lt_or_eq with h' | h'
    · exact not_before_self x _ (h.trans (hmono j i h'))
    · rw [h'] at h; exact not_before_self x _ h
  refine eq_nth k.isLt ?_
  have hbij : Function.Bijective σ := ⟨sortedFrom_injective _, sortedFrom_surjective _⟩
  have : (univ.filter fun j => Before x j (σ k)) = (univ.filter fun i => i < k).image σ := by
    ext j
    obtain ⟨i, rfl⟩ := hbij.2 j
    simp only [mem_filter, mem_univ, true_and, mem_image, hiff]
    exact ⟨fun h => ⟨i, h, rfl⟩, fun ⟨i', h, e⟩ => hbij.1 e ▸ h⟩
  unfold rank
  rw [this, card_image_of_injective _ hbij.1, show (univ.filter fun i => i < k) = Finset.Iio k by ext i; simp,
    Fin.card_Iio]

end Cert.Rank
-- ==== Proof.Field.lean ====
/-
Facts about extended reals that the two programs' values need: the constants' values, a vector divided by its
length being real whatever its entries, the normalisation's two forms, and the product distributing over sums of
numbers of one sign.
-/
module

public import Idealize.ShloMosaic.PureOps.Ideal.Laws
public import Idealize.ShloMosaic.Lib.IdealHost

@[expose] public section

noncomputable section

open Finset Idealize.ShloMosaic

namespace Cert.Field

/-! ## Constants -/

/-- The word of 128. -/
theorem bits_128 : Ideal.ofBits .f32 0x43000000#32 = ((128 : ℝ) : EReal) := by
  simp [Ideal.ofBits, Ideal.ieee]; norm_num; rw [← EReal.coe_mul]; norm_num
/-- The word of 24. -/
theorem bits_24 : Ideal.ofBits .f32 0x41C00000#32 = ((24 : ℝ) : EReal) := by
  simp [Ideal.ofBits, Ideal.ieee]; norm_num; rw [← EReal.coe_mul]; norm_num
/-- The word of 256. -/
theorem bits_256 : Ideal.ofBits .f32 0x43800000#32 = ((256 : ℝ) : EReal) := by
  simp [Ideal.ofBits, Ideal.ieee]; norm_num; rw [← EReal.coe_mul]; norm_num
/-- The word of minus infinity. -/
theorem bits_bot : Ideal.ofBits .f32 0xFF800000#32 = ⊥ := by simp [Ideal.ofBits, Ideal.ieee]
/-- The word of infinity. -/
theorem bits_top : Ideal.ofBits .f32 0x7F800000#32 = ⊤ := by simp [Ideal.ofBits, Ideal.ieee]

/-- The variance's offset is a positive real. -/
theorem bits_eps : ∃ r : ℝ, 0 < r ∧ Ideal.ofBits .f32 0x3727C5AC#32 = (r : EReal) := by
  refine ⟨_, ?_, by simp [Ideal.ofBits, Ideal.ieee]; rfl⟩
  positivity

/-- The least length is a positive real. -/
theorem bits_delta : ∃ r : ℝ, 0 < r ∧ Ideal.ofBits .f32 0x2B8CBCCC#32 = (r : EReal) := by
  refine ⟨_, ?_, by simp [Ideal.ofBits, Ideal.ieee]; rfl⟩
  positivity

/-- A small number read back signed is itself. -/
theorem toInt_ofNat {n : ℕ} (h : n < 2 ^ 31) : (BitVec.ofNat 32 n).toInt = n := by
  rw [BitVec.toInt_eq_toNat_of_lt] <;> rw [BitVec.toNat_ofNat, Nat.mod_eq_of_lt (by omega)]
  omega

/-! ## Sums -/

/-- A number that is neither infinity is real. -/
theorem real_of {a : EReal} (hb : a ≠ ⊥) (ht : a ≠ ⊤) : ∃ r : ℝ, a = r := ⟨a.toReal, (EReal.coe_toReal ht hb).symm⟩

/-- A sum of reals is real. -/
theorem sum_real {ι : Type*} (s : Finset ι) (f : ι → EReal) (h : ∀ i, ∃ r : ℝ, f i = r) : ∃ r : ℝ, ∑ i ∈ s, f i = r := by
  classical
  induction s using Finset.induction_on with
  | empty => exact ⟨0, by simp⟩
  | insert a s ha ih =>
    obtain ⟨p, hp⟩ := ih
    obtain ⟨q, hq⟩ := h a
    exact ⟨q + p, by rw [sum_insert ha, hp, hq, EReal.coe_add]⟩

/-- A square is not negative. -/
theorem mul_self_nonneg (a : EReal) : 0 ≤ a * a := by
  induction a with
  | bot => simp
  | top => simp
  | coe r => exact_mod_cast _root_.mul_self_nonneg r

/-- A sum of squares is not negative. -/
theorem sum_sq_nonneg {ι : Type*} (s : Finset ι) (f : ι → EReal) : 0 ≤ ∑ i ∈ s, f i * f i :=
  sum_nonneg fun i _ => mul_self_nonneg (f i)

/-! ## A vector divided by its length -/

/-- Every entry of a vector divided by its length (or by a positive real, if that is more) is real. -/
theorem unit_real {n : ℕ} (v : Fin n → EReal) (i : Fin n) (δ : EReal) (hδ : ∃ r : ℝ, 0 < r ∧ δ = r) :
    ∃ r : ℝ, Ideal.div (v i) (max (Ideal.sqrt (∑ j, v j * v j)) δ) = r := by
  obtain ⟨d, hd, rfl⟩ := hδ
  have h0 := sum_sq_nonneg univ v
  by_cases ht : (∑ j, v j * v j) = ⊤
  · refine ⟨0, ?_⟩
    rw [ht, Ideal.sqrt_top, max_eq_left le_top, Ideal.div, if_neg (by simp)]
    simp
  · obtain ⟨s, hs⟩ := real_of (a := ∑ j, v j * v j) (fun h => by rw [h] at h0; simp at h0) ht
    have hs0 : 0 ≤ s := by rw [hs] at h0; exact_mod_cast h0
    have hle : v i * v i ≤ (s : EReal) := by
      rw [← hs]; exact single_le_sum (f := fun j => v j * v j) (fun j _ => mul_self_nonneg (v j)) (mem_univ i)
    obtain ⟨r, hr⟩ : ∃ r : ℝ, v i = r := by
      refine real_of (fun h => ?_) (fun h => ?_) <;> rw [h] at hle <;> simp at hle
    have hm : max (Real.sqrt s) d ≠ 0 := (lt_max_of_lt_right hd).ne'
    refine ⟨r * (1 / max (Real.sqrt s) d), ?_⟩
    have hmax : max ((Real.sqrt s : ℝ) : EReal) (d : EReal) = ((max (Real.sqrt s) d : ℝ) : EReal) :=
      (EReal.coe_strictMono.monotone.map_max).symm
    rw [hs, Ideal.sqrt_coe, if_neg (not_lt.mpr hs0), hmax, Ideal.div_coe hm, hr, EReal.coe_mul]

/-! ## The normalisation -/

/-- Dividing by the root of a non-negative number plus a positive real is multiplying by the reciprocal root. -/
theorem div_sqrt (c v ε : EReal) (hv : 0 ≤ v) (hε : ∃ r : ℝ, 0 < r ∧ ε = r) :
    Ideal.div c (Ideal.sqrt (v + ε)) = c * Ideal.rsqrt (v + ε) := by
  obtain ⟨e, he, rfl⟩ := hε
  by_cases ht : v = ⊤
  · subst ht
    rw [EReal.top_add_coe, Ideal.sqrt_top, Ideal.rsqrt_top, Ideal.div, if_neg (by simp)]
    simp
  · obtain ⟨r, rfl⟩ := real_of (a := v) (fun h => by rw [h] at hv; simp at hv) ht
    have hr : 0 ≤ r := by exact_mod_cast hv
    have hp : 0 < r + e := by linarith
    rw [← EReal.coe_add, Ideal.sqrt_coe, if_neg (not_lt.mpr hp.le), Ideal.rsqrt_coe, if_neg (not_lt.mpr hp.le),
      if_neg hp.ne', Ideal.div_coe (Real.sqrt_pos.mpr hp).ne', one_div]

/-- A number that is not negative, divided by 256, is not negative. -/
theorem div_256_nonneg {a : EReal} (h : 0 ≤ a) : 0 ≤ Ideal.div a (Ideal.ofBits .f32 0x43800000#32) := by
  rw [bits_256, Ideal.div_coe (by norm_num)]
  exact mul_nonneg h (by exact_mod_cast (by norm_num : (0 : ℝ) ≤ 1 / 256))

/-! ## A number times a sum -/

/-- A number distributes over a sum of two that are not negative, or neither positive. -/
theorem add_mul_of_sign {a b : EReal} (h : (0 ≤ a ∧ 0 ≤ b) ∨ (a ≤ 0 ∧ b ≤ 0)) (c : EReal) : (a + b) * c = a * c + b * c := by
  rcases h with ⟨ha, hb⟩ | ⟨ha, hb⟩
  · exact EReal.right_distrib_of_nonneg ha hb
  · have ha' : 0 ≤ -a := EReal.neg_nonneg.mpr ha
    have hb' : 0 ≤ -b := EReal.neg_nonneg.mpr hb
    have e : a + b = -(-a + -b) := by
      rw [EReal.neg_add (Or.inl (ne_of_gt (lt_of_lt_of_le EReal.bot_lt_zero ha')))
        (Or.inr (ne_of_gt (lt_of_lt_of_le EReal.bot_lt_zero hb'))), sub_eq_add_neg, neg_neg, neg_neg]
    rw [e, ← neg_mul_neg, neg_neg, EReal.right_distrib_of_nonneg ha' hb', neg_mul_neg, neg_mul_neg]

/-- A number distributes over a sum of numbers of one sign. -/
theorem sum_mul_of_sign {ι : Type*} (s : Finset ι) (f : ι → EReal) (h : (∀ i, 0 ≤ f i) ∨ ∀ i, f i ≤ 0) (c : EReal) :
    (∑ i ∈ s, f i) * c = ∑ i ∈ s, f i * c := by
  classical
  induction s using Finset.induction_on with
  | empty => simp
  | insert a s ha ih =>
    rw [sum_insert ha, sum_insert ha, add_mul_of_sign, ih]
    exact h.imp (fun h => ⟨h a, sum_nonneg fun i _ => h i⟩) fun h => ⟨h a, sum_nonpos fun i _ => h i⟩

/-- Summing over the rows, each the total of the weights laid on it times a number, is summing every weight times
its own row's number: the weights laid on one row are of one sign. -/
theorem spread_sum {ι : Type*} [Fintype ι] {m : ℕ} (w : ι → EReal) (e : ι → Fin m) (u : Fin m → EReal)
    (hw : ∀ i, (∀ s, i = e s → 0 ≤ w s) ∨ ∀ s, i = e s → w s ≤ 0) :
    ∑ i, (∑ s, if i = e s then w s else 0) * u i = ∑ s, w s * u (e s) := by
  have h1 : ∀ i, (∑ s, if i = e s then w s else 0) * u i = ∑ s, if i = e s then w s * u i else 0 := by
    intro i
    rw [sum_mul_of_sign]
    · exact sum_congr rfl fun s _ => by split <;> simp
    · refine (hw i).imp (fun h s => ?_) fun h s => ?_
      · split
        · exact h s ‹_›
        · exact le_rfl
      · split
        · exact h s ‹_›
        · exact le_rfl
  simp only [h1]
  rw [sum_comm]
  exact sum_congr rfl fun s _ => by simp

end Cert.Field
-- ==== Proof.Spec.lean ====
/-
The layer's mathematics, one token at a time: a head's query normalised and cut in two, each half's scores against
128 unit keys, the eight best of the sums of one score of each half, their softmax weights, and the experts they name.
-/
module

public import proofs.«01_k».proof.Proof.Rank
public import proofs.«01_k».proof.Proof.Field

@[expose] public section

noncomputable section

open Finset Idealize.ShloMosaic

namespace Cert.Spec

/-- Head `h`'s query of the token `x`. -/
def query (x : Fin 768 → EReal) (W : Fin 768 → Fin 2048 → EReal) (h : Fin 8) (i : Fin 256) : EReal :=
  ∑ d, W d ⟨256 * h.val + i.val, by omega⟩ * x d

/-- The mean of 256 numbers. -/
def mean (q : Fin 256 → EReal) : EReal := Ideal.div (∑ i, q i) (Ideal.ofBits .f32 0x43800000#32)

/-- A query less its mean. -/
def centre (q : Fin 256 → EReal) (i : Fin 256) : EReal := q i - mean q

/-- The variance of a query. -/
def var (q : Fin 256 → EReal) : EReal := mean fun i => centre q i * centre q i

/-- The centred query times the reciprocal root of its variance. -/
def norm (q : Fin 256 → EReal) (i : Fin 256) : EReal :=
  centre q i * Ideal.rsqrt (var q + Ideal.ofBits .f32 0x3727C5AC#32)

/-- A vector divided by its length. -/
def unit (v : Fin 128 → EReal) (i : Fin 128) : EReal :=
  Ideal.div (v i) (max (Ideal.sqrt (∑ j, v j * v j)) (Ideal.ofBits .f32 0x2B8CBCCC#32))

/-- The score of key `r`. -/
def score (K : Fin 128 → Fin 128 → EReal) (v : Fin 128 → EReal) (r : Fin 128) : EReal := ∑ i, unit (K r) i * unit v i

/-- The first half of a vector. -/
def lo (q : Fin 256 → EReal) (i : Fin 128) : EReal := q ⟨i.val, by omega⟩

/-- The second half of a vector. -/
def hi (q : Fin 256 → EReal) (i : Fin 128) : EReal := q ⟨128 + i.val, by omega⟩

/-- The position of the `k`-th best score. -/
def best (s : Fin 128 → EReal) (k : Fin 8) : Fin 128 := Rank.nth s k.val (by omega)

/-- The row and the column of the sum numbered `p`. -/
def row (p : Fin 64) : Fin 8 := ⟨p.val / 8, by omega⟩
/-- The column of the sum numbered `p`. -/
def col (p : Fin 64) : Fin 8 := ⟨p.val % 8, by omega⟩

/-- The sums of one of the best eight of each half. -/
def sums (s0 s1 : Fin 128 → EReal) (p : Fin 64) : EReal := s0 (best s0 (row p)) + s1 (best s1 (col p))

/-- The `k`-th best sum. -/
def pick (s0 s1 : Fin 128 → EReal) (k : Fin 8) : Fin 64 := Rank.nth (sums s0 s1) k.val (by omega)

/-- The expert that the sum numbered `p` names. -/
def named (s0 s1 : Fin 128 → EReal) (p : Fin 64) : Fin 256 :=
  ⟨(best s0 (row p)).val + (best s1 (col p)).val, by omega⟩

/-- The expert of slot `k`. -/
def expert (s0 s1 : Fin 128 → EReal) (k : Fin 8) : Fin 256 := named s0 s1 (pick s0 s1 k)

/-- The score of slot `k`. -/
def top (s0 s1 : Fin 128 → EReal) (k : Fin 8) : EReal := sums s0 s1 (pick s0 s1 k)

/-- Weights of eight scores, the first the largest: the exponentials over their sum. -/
def gate (f : Fin 8 → EReal) (k : Fin 8) : EReal :=
  Ideal.exp (f k - f 0) * Ideal.div 1 (∑ j, Ideal.exp (f j - f 0))

/-- The activation. -/
def act (u : EReal) : EReal :=
  Ideal.ofBits .f32 0x3F000000#32 * u * (1 + Ideal.erf (u * Ideal.ofBits .f32 0x3F3504F3#32))

/-- The token's product with an expert's row. -/
def hidden (x : Fin 768 → EReal) (ed : Fin 256 → Fin 768 → EReal) (e : Fin 256) : EReal := ∑ d, ed e d * x d

/-- What slot `k` weighs its expert's output with. -/
def weight (u : Fin 256 → EReal) (s0 s1 : Fin 128 → EReal) (k : Fin 8) : EReal :=
  act (u (expert s0 s1 k)) * gate (top s0 s1) k

/-- One entry of the layer's output: over the heads and the slots, the weight times the expert's entry. -/
def out (u : Fin 256 → EReal) (s0 s1 : Fin 8 → Fin 128 → EReal) (eu : Fin 256 → EReal) : EReal :=
  ∑ h, ∑ k, weight u (s0 h) (s1 h) k * eu (expert (s0 h) (s1 h) k)

/-! ## Every score is real -/

/-- All entries of `s` are real. -/
def Real' {n : ℕ} (s : Fin n → EReal) : Prop := ∀ i, ∃ r : ℝ, s i = r

/-- A vector divided by its length is real, whatever its entries. -/
theorem unit_real (v : Fin 128 → EReal) : Real' (unit v) := fun i => Field.unit_real v i _ Field.bits_delta

/-- Every score is real. -/
theorem score_real (K : Fin 128 → Fin 128 → EReal) (v : Fin 128 → EReal) : Real' (score K v) := fun r =>
  Field.sum_real _ _ fun i => by
    obtain ⟨a, ha⟩ := unit_real (K r) i
    obtain ⟨b, hb⟩ := unit_real v i
    exact ⟨a * b, by rw [ha, hb, EReal.coe_mul]⟩

variable {s0 s1 : Fin 128 → EReal}

/-- Every sum of two scores is real. -/
theorem sums_real (h0 : Real' s0) (h1 : Real' s1) : Real' (sums s0 s1) := fun p => by
  obtain ⟨a, ha⟩ := h0 (best s0 (row p))
  obtain ⟨b, hb⟩ := h1 (best s1 (col p))
  exact ⟨a + b, by rw [sums, ha, hb, EReal.coe_add]⟩

/-- A real is above `⊥`. -/
theorem Real'.bot_lt {n : ℕ} {s : Fin n → EReal} (h : Real' s) (i : Fin n) : ⊥ < s i := by
  obtain ⟨r, hr⟩ := h i
  rw [hr]; exact EReal.bot_lt_coe r

/-- The sums fall along both axes. -/
theorem sums_falls (q q' : Fin 64) (hr : q'.val / 8 ≤ q.val / 8) (hc : q'.val % 8 ≤ q.val % 8) :
    sums s0 s1 q ≤ sums s0 s1 q' := add_le_add (Rank.nth_le _ _ _ hr) (Rank.nth_le _ _ _ hc)

/-- The best eight sums are real. -/
theorem top_real (h0 : Real' s0) (h1 : Real' s1) : Real' (top s0 s1) := fun _ => sums_real h0 h1 _

/-- The first of the best eight sums is the largest. -/
theorem top_le (k : Fin 8) : top s0 s1 k ≤ top s0 s1 0 := Rank.nth_le _ _ _ (Nat.zero_le _)

/-! ## The weights -/

/-- The exponentials' sum is a positive real. -/
theorem sum_exp {f : Fin 8 → EReal} (hf : Real' f) : ∃ r : ℝ, 0 < r ∧ ∑ j, Ideal.exp (f j - f 0) = r := by
  choose g hg using hf
  have he : ∀ j, Ideal.exp (f j - f 0) = ((Real.exp (g j - g 0) : ℝ) : EReal) := fun j => by
    rw [hg j, hg 0, ← EReal.coe_sub, Ideal.exp_coe]
  refine ⟨∑ j, Real.exp (g j - g 0), sum_pos (fun j _ => Real.exp_pos _) univ_nonempty, ?_⟩
  simp only [he, Fin.sum_univ_eight]
  norm_cast

/-- The weights are non-negative reals. -/
theorem gate_real {f : Fin 8 → EReal} (hf : Real' f) (k : Fin 8) : ∃ r : ℝ, 0 ≤ r ∧ gate f k = r := by
  obtain ⟨z, hz, e⟩ := sum_exp hf
  obtain ⟨a, ha⟩ := hf k
  obtain ⟨b, hb⟩ := hf 0
  refine ⟨Real.exp (a - b) * (1 * (1 / z)), by positivity, ?_⟩
  rw [gate, e, ha, hb, ← EReal.coe_sub, Ideal.exp_coe, Ideal.div_coe hz.ne', ← EReal.coe_one, ← EReal.coe_mul, ← EReal.coe_mul]

/-- Dividing by the sum is multiplying by one over it. -/
theorem gate_eq_div {f : Fin 8 → EReal} (hf : Real' f) (k : Fin 8) :
    gate f k = Ideal.div (Ideal.exp (f k - f 0)) (∑ j, Ideal.exp (f j - f 0)) := by
  obtain ⟨z, hz, e⟩ := sum_exp hf
  rw [gate, e, Ideal.div_coe hz.ne', Ideal.div_coe hz.ne', one_mul]

/-- A weight has the sign of its expert's activation. -/
theorem weight_sign (u : Fin 256 → EReal) (h0 : Real' s0) (h1 : Real' s1) (k : Fin 8) :
    (0 ≤ act (u (expert s0 s1 k)) → 0 ≤ weight u s0 s1 k) ∧ (act (u (expert s0 s1 k)) ≤ 0 → weight u s0 s1 k ≤ 0) := by
  obtain ⟨g, hg, e⟩ := gate_real (top_real h0 h1) k
  have hg' : (0 : EReal) ≤ (g : EReal) := by exact_mod_cast hg
  rw [weight, e]
  exact ⟨fun h => EReal.mul_nonneg_iff.mpr (Or.inl ⟨h, hg'⟩), fun h => EReal.mul_nonpos_iff.mpr (Or.inr ⟨h, hg'⟩)⟩

/-- Summing over the experts, each the total of the weights laid on it times its entry, gives the layer's output. -/
theorem spread_eq_out (u : Fin 256 → EReal) (s0 s1 : Fin 8 → Fin 128 → EReal) (eu : Fin 256 → EReal)
    (h0 : ∀ h, Real' (s0 h)) (h1 : ∀ h, Real' (s1 h)) :
    ∑ e, (∑ h, ∑ k, if e = expert (s0 h) (s1 h) k then weight u (s0 h) (s1 h) k else 0) * eu e = out u s0 s1 eu := by
  have := Field.spread_sum (ι := Fin 8 × Fin 8) (fun p => weight u (s0 p.1) (s1 p.1) p.2)
    (fun p => expert (s0 p.1) (s1 p.1) p.2) eu fun e => (le_total 0 (act (u e))).imp
      (fun h p hp => (weight_sign u (h0 p.1) (h1 p.1) p.2).1 (hp ▸ h))
      (fun h p hp => (weight_sign u (h0 p.1) (h1 p.1) p.2).2 (hp ▸ h))
  rw [out]
  simpa only [Fintype.sum_prod_type] using this

/-! ## The variance -/

/-- The variance is not negative. -/
theorem var_nonneg (q : Fin 256 → EReal) : 0 ≤ var q := Field.div_256_nonneg (Field.sum_sq_nonneg _ _)

/-- Dividing by the root of the variance gives the same. -/
theorem norm_eq_div (q : Fin 256 → EReal) (i : Fin 256) :
    Ideal.div (centre q i) (Ideal.sqrt (var q + Ideal.ofBits .f32 0x3727C5AC#32)) = norm q i :=
  Field.div_sqrt _ _ _ (var_nonneg q) Field.bits_eps

end Cert.Spec
-- ==== Proof.Rounds.lean ====
/-
The rounds of a top-k over the rows of an array, read one column at a time: round `k` takes the column's entry of
rank `k`, and its row.
-/
module

public import proofs.«01_k».proof.Proof.Body
public import proofs.«01_k».proof.Proof.Spec
public import Idealize.ShloMosaic.Lib.Pipeline.Value
public import Idealize.ShloMosaic.Lib.ValueIdx

@[expose] public section

noncomputable section

open Finset Idealize.ShloMosaic Idealize.ShloMosaic.ValueIdx

namespace Cert.KernelIdeal.Body

open Cert.KernelIdeal Cert.KernelIdeal.Gen

/-! ## Layout operations at an index -/

/-- A row of 512 kept as a 1×512 array. -/
theorem asRow {α : Type} (v : S512.Idx → α) (h : S512.ShapeCasts S1x512) (j : Fin 512) :
    shapeCast S1x512 v h (ix2 0 j) = v (ix1 j) :=
  shapeCast_apply v h _ _ (by rw [Shape.rowMajor_val_one, Shape.rowMajor_val_two]; show j.val = 0 * 512 + j.val; omega)

/-- A row repeated down `n` rows. -/
theorem downRows {α : Type} {n : ℕ} (v : S1x512.Idx → α) (h : S1x512.Broadcasts (Cols n)) (i : Fin n) (j : Fin 512) :
    broadcastTo (Cols n) v h (ix2 i j) = v (ix2 0 j) :=
  broadcastTo_apply v h _ _ fun a => match a with | ⟨0, _⟩ => rfl | ⟨1, _⟩ => rfl

/-- The entry a reduction over the rows meets at row `k`. -/
theorem liftRows {n : ℕ} (h : (Cols n).Reduces [0] S512) (j : Fin 512) (k : Fin n) :
    h.lift (ix1 j) k = (ix2 k j : (Cols n).Idx) :=
  funext fun a => Fin.ext (match a with | ⟨0, _⟩ => rfl | ⟨1, _⟩ => rfl)

/-- A choice by an equality of extended reals. -/
theorem select_eq {α : Type} {φ : FTy} (x y : Ideal φ) (a b : α) [Decidable (x = y)] :
    Scalar.select (FloatOps.cmpf (F := Ideal) .oeq x y) a b = if x = y then a else b := by
  rw [Ideal.cmpf_def, Ideal.cmp, Scalar.select]
  by_cases h : x = y <;> simp [h]

/-- A column of an array. -/
abbrev column {n : ℕ} (v : FVec Ideal (Cols n) .f32) (j : Fin 512) : Fin n → EReal := fun i => v (ix2 i j)

variable {n : ℕ} (W : RowFacts n)

/-- An entry of the row numbers is its row's number. -/
theorem rowNo_apply (hn : n < 2 ^ 31) (i : Fin n) (j : Fin 512) :
    rowNo (F := Ideal) W (ix2 i j) = (((i : ℕ) : ℝ) : EReal) := by
  show (((iota .tc (Cols n) 32 [0] W.hi (ix2 i j)).toInt : ℝ) : EReal) = _
  rw [iota_single_apply]
  show (((BitVec.ofNat 32 i.val).toInt : ℝ) : EReal) = _
  rw [Field.toInt_ofNat (by omega)]
  norm_num

/-- A column's largest entry. -/
theorem colMax_apply (v : FVec Ideal (Cols n) .f32) (j : Fin 512) :
    colMax W v (ix2 0 j) = univ.sup (column v j) := by
  refine (asRow _ _ j).trans ((Ideal.multiReduction_maximumf_single _ _ W.hr _ _ (ix1 j)).trans ?_)
  show (univ : Finset (Fin n)).fold max (Ideal.ofBits .f32 0xFF800000#32) _ = _
  rw [Field.bits_bot]
  exact Finset.fold_congr fun i _ => congrArg v (liftRows W.hr j i)

/-- A column's least entry. -/
theorem colMin_apply (v : FVec Ideal (Cols n) .f32) (j : Fin 512) (hr : (Cols n).Reduces [0] S512)
    (hf : FKind.Formats .f32) (ha : 0x7F800000#32 = FKind.minimumf.neutral .f32 hf) :
    multiReduction .minimumf [0] S512 v 0x7F800000#32 hr hf ha (ix1 j) = univ.inf (column v j) := by
  rw [multiReduction_minimumf_eq_fold]
  refine (hr.fold_filter_drop_single _ _ v _).trans ?_
  show (univ : Finset (Fin n)).fold min (Ideal.ofBits .f32 0x7F800000#32) _ = _
  rw [Field.bits_top]
  exact Finset.fold_congr fun i _ => congrArg v (liftRows hr j i)

open scoped Classical in
/-- The least row number among those of a column's largest entries. -/
theorem colArg_apply (hn : n < 2 ^ 31) (w : BitVec 32) (v : FVec Ideal (Cols n) .f32) (j : Fin 512) :
    colArg W w v (ix2 0 j)
      = univ.inf fun i : Fin n => if column v j i = univ.sup (column v j) then (((i : ℕ) : ℝ) : EReal) else Ideal.ofBits .f32 w := by
  refine (asRow _ _ j).trans ((colMin_apply _ j W.hr _ _).trans (congrArg _ (funext fun i => ?_)))
  show Scalar.select (FloatOps.cmpf (F := Ideal) .oeq (v (ix2 i j)) (broadcastTo (Cols n) (colMax W v) W.hb (ix2 i j)))
    (rowNo W (ix2 i j)) (Ideal.ofBits .f32 w) = _
  rw [select_eq, downRows, colMax_apply, rowNo_apply W hn]

open scoped Classical in
/-- Striking a column's taken row. -/
theorem strike_apply (hn : n < 2 ^ 31) (w : BitVec 32) (v : FVec Ideal (Cols n) .f32) (i : Fin n) (j : Fin 512) :
    strike W w v (ix2 i j) = if (((i : ℕ) : ℝ) : EReal) = colArg W w v (ix2 0 j) then ⊥ else v (ix2 i j) := by
  show Scalar.select (FloatOps.cmpf (F := Ideal) .oeq (rowNo W (ix2 i j)) (broadcastTo (Cols n) (colArg W w v) W.hb (ix2 i j)))
    (Ideal.ofBits .f32 0xFF800000#32) (v (ix2 i j)) = _
  rw [select_eq, downRows, rowNo_apply W hn, Field.bits_bot]

/-! ## The rounds -/

variable (hn : n < 2 ^ 31) (w : BitVec 32) (hw : Ideal.ofBits .f32 w = ((n : ℝ) : EReal))
  (v : FVec Ideal (Cols n) .f32) (j : Fin 512)
include hn hw

/-- Of a column that is what `k` rounds leave of `x`, the largest entry's first row is the entry of rank `k`'s. -/
theorem colArg_left (x : Fin n → EReal) (k : ℕ) (hk : k < n) (hb : ⊥ < x (Rank.nth x k hk))
    (u : FVec Ideal (Cols n) .f32) (hu : column u j = Rank.leftOf x k) :
    colArg W w u (ix2 0 j) = (((Rank.nth x k hk : ℕ) : ℝ) : EReal) := by
  rw [colArg_apply W hn, hu, Rank.sup_leftOf x k hk, hw]
  exact Rank.first_leftOf x k hk hb _ le_rfl

/-- What is left of a column after `k` rounds: the entries of rank below `k` are struck out. -/
theorem left_apply (m : ℕ) (hm : m ≤ n) (hb : ∀ k (hk : k < n), k < m → ⊥ < column v j (Rank.nth (column v j) k hk)) (k : ℕ)
    (hkm : k ≤ m) : column (left W w v k) j = Rank.leftOf (column v j) k := by
  induction k with
  | zero => exact (Rank.leftOf_zero _).symm
  | succ k ih =>
    have hk : k < n := by omega
    have ih' := ih (by omega)
    funext i
    show strike W w (left W w v k) (ix2 i j) = _
    rw [strike_apply W hn, colArg_left W hn w hw j (column v j) k hk (hb k hk (by omega)) _ ih', ← Rank.leftOf_succ _ k hk i]
    have e : ((((i : ℕ) : ℝ) : EReal) = (((Rank.nth (column v j) k hk : ℕ) : ℝ) : EReal)) ↔ i = Rank.nth (column v j) k hk := by
      rw [EReal.coe_eq_coe_iff, Nat.cast_inj, Fin.ext_iff]
    simp only [e]
    split
    · rfl
    · exact congrFun ih' i

/-- Round `k` takes the entry of rank `k`. -/
theorem topVal_apply (m : ℕ) (hm : m ≤ n) (hb : ∀ k (hk : k < n), k < m → ⊥ < column v j (Rank.nth (column v j) k hk)) (k : ℕ)
    (hkm : k < m) : topVal W w v k (ix2 0 j) = column v j (Rank.nth (column v j) k (by omega)) := by
  unfold topVal
  rw [colMax_apply, left_apply W hn w hw v j m hm hb k hkm.le, Rank.sup_leftOf]

/-- Round `k` takes the row of the entry of rank `k`. -/
theorem topRow_apply (m : ℕ) (hm : m ≤ n) (hb : ∀ k (hk : k < n), k < m → ⊥ < column v j (Rank.nth (column v j) k hk)) (k : ℕ)
    (hkm : k < m) : topRow W w v k (ix2 0 j) = (((Rank.nth (column v j) k (by omega) : ℕ) : ℝ) : EReal) :=
  colArg_left W hn w hw j (column v j) k (by omega) (hb k (by omega) hkm) _ (left_apply W hn w hw v j m hm hb k hkm.le)

end Cert.KernelIdeal.Body
-- ==== Proof.Scores.lean ====
/-
The kernel's queries and scores, read one column (one token of the block) at a time.
-/
module

public import proofs.«01_k».proof.Proof.Rounds
public import Idealize.ShloMosaic.Lib.MatmulPlain

@[expose] public section

noncomputable section

open Finset Idealize.ShloMosaic Idealize.ShloMosaic.ValueIdx

namespace Cert.KernelIdeal.Body

open Cert.KernelIdeal Cert.KernelIdeal.Gen

/-- The rows of a matrix. -/
abbrev entries {m n : ℕ} (v : (⟨2, ![m, n]⟩ : Shape).Idx → EReal) (i : Fin m) (k : Fin n) : EReal := v (ix2 i k)

/-- The accumulator that a product starts from is zero. -/
theorem zeroAcc {s : Shape} (i : s.Idx) : constant (F := Ideal) s .f32 0x00000000#32 i = 0 := Ideal.ofBits_zero_f32

/-- A sum over the rows. -/
theorem colSum_apply {n : ℕ} (v : FVec Ideal (Cols n) .f32) (hr : (Cols n).Reduces [0] S512) (hf : FKind.Formats .f32)
    (ha : 0x00000000#32 = FKind.add.neutral .f32 hf) (h : S512.ShapeCasts S1x512) (j : Fin 512) :
    shapeCast S1x512 (multiReduction .add [0] S512 v 0x00000000#32 hr hf ha) h (ix2 0 j) = ∑ i, column v j i := by
  refine (asRow _ _ j).trans ((Ideal.multiReduction_add_single _ _ hr hf ha (ix1 j)).trans ?_)
  exact Finset.sum_congr rfl fun i _ => congrArg v (liftRows hr j i)

/-- A sum along a row. -/
theorem rowSum_apply (v : FVec Ideal S128x128 .f32) (hf : FKind.Formats .f32) (ha : 0x00000000#32 = FKind.add.neutral .f32 hf)
    (r : Fin 128) :
    shapeCast S128x1 (multiReduction .add [1] S128 v 0x00000000#32 reduces_S128x128_S128 hf ha) shapeCasts_S128_S128x1 (ix2 r 0)
      = ∑ i, entries v r i := by
  refine (shapeCast_apply _ _ _ (ix1 r) (by
    rw [Shape.rowMajor_val_one, Shape.rowMajor_val_two]; show r.val = r.val * 1 + 0; omega)).trans ?_
  refine (Ideal.multiReduction_add_single _ _ reduces_S128x128_S128 hf ha (ix1 r)).trans ?_
  exact Finset.sum_congr rfl fun i _ => congrArg v (funext fun a => Fin.ext (match a with | ⟨0, _⟩ => rfl | ⟨1, _⟩ => rfl))

/-! ## Queries -/

/-- The queries: the product with the query weights. -/
theorem queries_apply (x : FVec Ideal S512x768 .f32) (wq : FVec Ideal S2048x768 .f32) (i : Fin 2048) (j : Fin 512) :
    queries x wq (ix2 i j) = ∑ d, entries wq i d * entries x j d := by
  unfold queries
  rw [shapeCast_self, shapeCast_self]
  refine (Ideal.matmul_transposedRhs_apply (M := 2048) (K := 768) (N := 512) none wq x _ i j).trans ?_
  rw [zeroAcc, zero_add]

/-- The products of the tokens with all 256 experts' rows. -/
theorem dense_apply (x : FVec Ideal S512x768 .f32) (ed : FVec Ideal S256x768 .f32) (e : Fin 256) (j : Fin 512) :
    dense x ed (ix2 e j) = Spec.hidden (entries x j) (entries ed) e := by
  unfold dense
  rw [shapeCast_self]
  refine (Ideal.matmul_transposedRhs_apply (M := 256) (K := 768) (N := 512) none ed x _ e j).trans ?_
  rw [zeroAcc, zero_add]; rfl

/-- One column of a head's query. -/
theorem headQuery_apply (x : FVec Ideal S512x768 .f32) (wq : FVec Ideal S2048x768 .f32) (h : Fin 8)
    (hs : S2048x512.Slices ![256 * h.val, 0] S256x512) (j : Fin 512) :
    column (headQuery (queries x wq) h.val hs) j = Spec.query (entries x j) (fun d i => entries wq i d) h := by
  funext i
  refine (extractStridedSlice_apply _ _ hs _ (ix2 ⟨256 * h.val + i.val, by omega⟩ j) fun a => match a with
    | ⟨0, _⟩ => rfl | ⟨1, _⟩ => (Nat.zero_add _).symm).trans ?_
  exact queries_apply x wq _ j

/-! ## The normalisation -/

/-- A column's mean. -/
theorem colMean_apply (v : FVec Ideal S256x512 .f32) (j : Fin 512) : colMean v (ix2 0 j) = Spec.mean (column v j) :=
  congrArg (fun s => Ideal.div s _) (colSum_apply v _ _ _ _ j)

/-- A column less its mean. -/
theorem centre_apply (v : FVec Ideal S256x512 .f32) (i : Fin 256) (j : Fin 512) :
    centre v (ix2 i j) = Spec.centre (column v j) i := by
  show v (ix2 i j) - broadcastTo (Cols 256) (colMean v) broadcasts_S1x512_S256x512 (ix2 i j) = _
  rw [downRows, colMean_apply]; rfl

/-- A column normalised. -/
theorem norm_apply (v : FVec Ideal S256x512 .f32) (j : Fin 512) : column (norm v) j = Spec.norm (column v j) := by
  funext i
  show centre v (ix2 i j) * broadcastTo (Cols 256)
    (rsqrt (addf (colMean (mulf (centre v) (centre v))) (broadcast S1x512 (Scalar.ofBits .f32 0x3727C5AC#32))))
    broadcasts_S1x512_S256x512 (ix2 i j) = _
  rw [downRows, centre_apply]
  show Spec.centre (column v j) i * Ideal.rsqrt (colMean (mulf (centre v) (centre v)) (ix2 0 j) + Ideal.ofBits .f32 0x3727C5AC#32) = _
  rw [colMean_apply]
  have : column (mulf (centre v) (centre v)) j = fun i => Spec.centre (column v j) i * Spec.centre (column v j) i := by
    funext i
    show centre v (ix2 i j) * centre v (ix2 i j) = _
    rw [centre_apply]
  rw [this]; rfl

/-! ## Unit vectors and scores -/

/-- A column divided by its length. -/
theorem colUnit_apply (v : FVec Ideal S128x512 .f32) (j : Fin 512) : column (colUnit v) j = Spec.unit (column v j) := by
  funext i
  refine (congrArg (Ideal.div (v (ix2 i j))) (downRows _ broadcasts_S1x512_S128x512 i j)).trans ?_
  exact congrArg (fun s => Ideal.div (v (ix2 i j)) (max (Ideal.sqrt s) _)) (colSum_apply (mulf v v) _ _ _ _ j)

/-- A key divided by its length. -/
theorem keyUnit_apply (v : FVec Ideal S128x128 .f32) (r i : Fin 128) : keyUnit v (ix2 r i) = Spec.unit (entries v r) i := by
  refine (congrArg (Ideal.div (v (ix2 r i))) (broadcastTo_apply _ broadcasts_S128x1_S128x128 (ix2 r i) (ix2 r 0)
    fun a => match a with | ⟨0, _⟩ => rfl | ⟨1, _⟩ => rfl)).trans ?_
  exact congrArg (fun s => Ideal.div (v (ix2 r i)) (max (Ideal.sqrt s) _)) (rowSum_apply (mulf v v) _ _ r)

/-- The scores of a half that is the column `u`. -/
theorem score_apply (keys : FVec Ideal S128x128 .f32) (q : FVec Ideal S128x512 .f32) (j : Fin 512) (u : Fin 128 → EReal)
    (hu : column q j = u) (r : Fin 128) :
    matmul dot_S128x128_S128x512_S128x512_1_0_0_1_n_n none (keyUnit keys) (colUnit q) (constant S128x512 .f32 0x00000000#32)
      (ix2 r j) = Spec.score (entries keys) u r := by
  refine (Ideal.matmul_plain_apply (M := 128) (K := 128) (N := 512) none (keyUnit keys) (colUnit q) _ r j).trans ?_
  rw [zeroAcc, zero_add]
  refine Finset.sum_congr rfl fun i _ => ?_
  rw [keyUnit_apply, ← hu, ← colUnit_apply]

/-- The first half's scores. -/
theorem score0_apply (keys : FVec Ideal S128x128 .f32) (q : FVec Ideal S256x512 .f32) (j : Fin 512) :
    column (score0 keys q) j = Spec.score (entries keys) (Spec.lo (Spec.norm (column q j))) := by
  funext r
  refine score_apply keys _ j _ ?_ r
  funext i
  refine (extractStridedSlice_apply _ _ slices_S256x512_o0_0_S128x512 _ (ix2 ⟨i.val, by omega⟩ j) fun a => match a with
    | ⟨0, _⟩ => (Nat.zero_add _).symm | ⟨1, _⟩ => (Nat.zero_add _).symm).trans ?_
  exact congrFun (norm_apply q j) _

/-- The second half's scores. -/
theorem score1_apply (keys : FVec Ideal S128x128 .f32) (q : FVec Ideal S256x512 .f32) (j : Fin 512) :
    column (score1 keys q) j = Spec.score (entries keys) (Spec.hi (Spec.norm (column q j))) := by
  funext r
  refine score_apply keys _ j _ ?_ r
  funext i
  refine (extractStridedSlice_apply _ _ slices_S256x512_o128_0_S128x512 _ (ix2 ⟨128 + i.val, by omega⟩ j) fun a => match a with
    | ⟨0, _⟩ => rfl | ⟨1, _⟩ => (Nat.zero_add _).symm).trans ?_
  exact congrFun (norm_apply q j) _

end Cert.KernelIdeal.Body
-- ==== Proof.Prune.lean ====
/-
The largest eight of the sixty-four sums `f a + g b` of two falling columns of eight lie among the twenty with
`(a + 1) * (b + 1) ≤ 8`, in the same order: each sum left out has at least eight of the twenty before it.
-/
module

public import proofs.«01_k».proof.Proof.Rank

@[expose] public section

noncomputable section

open Finset

namespace Cert.Rank

/-- Where candidate row `p` lies among the sixty-four sums (the last four rows are fillers). -/
def place : Fin 24 → Fin 64 :=
  ![0, 1, 2, 3, 4, 5, 6, 7, 8, 9, 10, 11, 16, 17, 24, 25, 32, 40, 48, 56, 0, 0, 0, 0]

/-- The candidates keep their order. -/
theorem place_lt_iff : ∀ p p' : Fin 24, p.val < 20 → p'.val < 20 → (place p < place p' ↔ p < p') := by decide +kernel

/-- The candidates that a sum left out cannot precede. -/
def above (q : Fin 64) : Finset (Fin 24) :=
  univ.filter fun p => p.val < 20 ∧ (place p).val / 8 ≤ q.val / 8 ∧ (place p).val % 8 ≤ q.val % 8

/-- Every sum is a candidate or has eight candidates at its upper left. -/
theorem eight_above : ∀ q : Fin 64, (∃ p : Fin 24, p.val < 20 ∧ place p = q) ∨ 8 ≤ (above q).card := by decide +kernel

/-- A candidate at a sum's upper left does not come after it. -/
theorem above_le : ∀ q : Fin 64, ∀ p ∈ above q, place p ≤ q := by decide +kernel

open scoped Classical

variable (c : Fin 24 → EReal) (d : Fin 64 → EReal)

/-- `c` holds the candidates of the sums `d`, which fall along both axes. -/
structure Prunes : Prop where
  cand : ∀ p : Fin 24, p.val < 20 → c p = d (place p)
  pad : ∀ p : Fin 24, 20 ≤ p.val → c p = ⊥
  real : ∀ q, ⊥ < d q
  falls : ∀ q q' : Fin 64, q'.val / 8 ≤ q.val / 8 → q'.val % 8 ≤ q.val % 8 → d q ≤ d q'

variable {c d}

/-- An entry of rank below eight is a candidate, not a filler. -/
theorem Prunes.lt_twenty (h : Prunes c d) {p : Fin 24} (hp : rank c p < 8) : p.val < 20 := by
  by_contra hn
  have hsub : (univ.filter fun p' : Fin 24 => p'.val < 20) ⊆ univ.filter fun p' => Before c p' p := by
    intro p' hp'
    simp only [mem_filter, mem_univ, true_and] at hp' ⊢
    exact .inl (by rw [h.pad p (by omega), h.cand p' hp']; exact h.real _)
  have h1 := card_le_card hsub
  have h2 : (univ.filter fun p' : Fin 24 => p'.val < 20).card = 20 := by decide
  unfold rank at hp
  omega

/-- Two candidates come in the order of their sums. -/
theorem Prunes.before_iff (h : Prunes c d) {p p' : Fin 24} (hp : p.val < 20) (hp' : p'.val < 20) :
    Before d (place p') (place p) ↔ Before c p' p := by
  unfold Before
  rw [h.cand p hp, h.cand p' hp', place_lt_iff p' p hp' hp]

/-- Among all sixty-four sums a candidate of rank below eight has the rank it has among the candidates. -/
theorem Prunes.rank_place (h : Prunes c d) {p : Fin 24} (hp : rank c p < 8) : rank d (place p) = rank c p := by
  have hp20 := h.lt_twenty hp
  have hset : (univ.filter fun q => Before d q (place p)) = (univ.filter fun p' => Before c p' p).image place := by
    ext q
    simp only [mem_filter, mem_univ, true_and, mem_image]
    constructor
    · intro hq
      by_cases hc : ∃ p' : Fin 24, p'.val < 20 ∧ place p' = q
      · obtain ⟨p', hp', rfl⟩ := hc
        exact ⟨p', (h.before_iff hp20 hp').mp hq, rfl⟩
      · exfalso
        have h8 := (eight_above q).resolve_left hc
        have hsub : above q ⊆ univ.filter fun p' => Before c p' p := by
          intro p' hp'
          have hle := above_le q p' hp'
          simp only [above, mem_filter, mem_univ, true_and] at hp' ⊢
          refine (h.before_iff hp20 hp'.1).mp (Before.trans ?_ hq)
          rcases (h.falls q (place p') hp'.2.1 hp'.2.2).lt_or_eq with h' | h'
          · exact .inl h'
          · exact .inr ⟨h'.symm, lt_of_le_of_ne hle fun e => hc ⟨p', hp'.1, e⟩⟩
        have := card_le_card hsub
        unfold rank at hp
        omega
    · rintro ⟨p', hb, rfl⟩
      have hp' : p'.val < 20 := by
        by_contra hn
        have := hb.le
        rw [h.pad p' (by omega), h.cand p hp20] at this
        exact absurd this (not_le.mpr (h.real _))
      exact (h.before_iff hp20 hp').mpr hb
  unfold rank
  rw [hset, card_image_of_injOn]
  intro a ha b hb e
  have key : ∀ p' : Fin 24, Before c p' p → p'.val < 20 := fun p' hb => h.lt_twenty ((rank_lt_rank hb).trans hp)
  have ha' := key a (by simpa using ha)
  have hb' := key b (by simpa using hb)
  by_contra hne
  rcases lt_or_gt_of_ne hne with h' | h'
  · exact absurd e ((place_lt_iff a b ha' hb').mpr h').ne
  · exact absurd e ((place_lt_iff b a hb' ha').mpr h').ne'

/-- The largest eight of all the sums are the largest eight candidates, in order. -/
theorem Prunes.nth (h : Prunes c d) {k : ℕ} (hk : k < 8) :
    Rank.nth d k (by omega) = place (Rank.nth c k (by omega)) := by
  refine (eq_nth (by omega) ?_).symm
  rw [h.rank_place (by rw [rank_nth]; exact hk), rank_nth]

/-- The best eight of the twenty-four rows are among the twenty candidates. -/
theorem Prunes.nth_lt (h : Prunes c d) {k : ℕ} (hk : k < 8) : (Rank.nth c k (by omega)).val < 20 :=
  h.lt_twenty (by rw [rank_nth]; exact hk)

end Cert.Rank
-- ==== Proof.Candidates.lean ====
/-
The kernel's twenty-four candidates of one head, read one column at a time: they hold the sums that can be among the
best eight, so the rounds over them take the best eight of all sixty-four sums, and the experts these name.
-/
module

public import proofs.«01_k».proof.Proof.Scores
public import proofs.«01_k».proof.Proof.Prune

@[expose] public section

noncomputable section

open Finset Idealize.ShloMosaic Idealize.ShloMosaic.ValueIdx

namespace Cert.KernelIdeal.Body

open Cert.KernelIdeal Cert.KernelIdeal.Gen
open Cert.Rank (place Prunes)

/-- A stack of arrays of 512 columns, read in piece `k`, which starts at row `pre`. -/
theorem stack_apply {n m : ℕ} (xs : List ((s : Shape) × (s.Idx → EReal))) (h : Shape.Concatenates (xs.map (·.1)) (Cols n) 0)
    (k : ℕ) (hk : k < xs.length) (x : (Cols m).Idx → EReal) (hx : xs[k] = ⟨Cols m, x⟩) (pre : ℕ)
    (hpre : (((xs.take k).map (·.1)).map fun s => if h : s.rank = (Cols n).rank then s.size (Fin.cast h.symm 0) else 0).sum = pre)
    (i : Fin m) (p : Fin n) (hp : pre + i.val = p.val) (j : Fin 512) :
    concatenate (Cols n) 0 xs h (ix2 p j) = x (ix2 i j) :=
  concatenate_apply_piece (t := Cols n) 0 xs h (ix2 p j) k hk (Cols m) x hx rfl pre hpre (ix2 i j)
    (fun b hb => match b with | ⟨0, _⟩ => absurd rfl hb | ⟨1, _⟩ => rfl) hp

/-- Row `c` of eight stacked rows is the `c`-th. -/
theorem stack8_apply (f : ℕ → FVec Ideal S1x512 .f32) (c : Fin 8) (j : Fin 512) :
    stack8 f (ix2 c j) = f c.val (ix2 0 j) := by
  unfold stack8
  match c with
  | ⟨0, _⟩ => exact stack_apply _ _ 0 (by simp) (m := 1) (f 0) rfl 0 rfl 0 _ rfl j
  | ⟨1, _⟩ => exact stack_apply _ _ 1 (by simp) (m := 1) (f 1) rfl 1 rfl 0 _ rfl j
  | ⟨2, _⟩ => exact stack_apply _ _ 2 (by simp) (m := 1) (f 2) rfl 2 rfl 0 _ rfl j
  | ⟨3, _⟩ => exact stack_apply _ _ 3 (by simp) (m := 1) (f 3) rfl 3 rfl 0 _ rfl j
  | ⟨4, _⟩ => exact stack_apply _ _ 4 (by simp) (m := 1) (f 4) rfl 4 rfl 0 _ rfl j
  | ⟨5, _⟩ => exact stack_apply _ _ 5 (by simp) (m := 1) (f 5) rfl 5 rfl 0 _ rfl j
  | ⟨6, _⟩ => exact stack_apply _ _ 6 (by simp) (m := 1) (f 6) rfl 6 rfl 0 _ rfl j
  | ⟨7, _⟩ => exact stack_apply _ _ 7 (by simp) (m := 1) (f 7) rfl 7 rfl 0 _ rfl j

/-- A piece of the candidates: one row added to the first `m` rows of a stack of eight. -/
theorem addRows_apply {m : ℕ} (hm : m ≤ 8) (r : FVec Ideal S1x512 .f32) (g : ℕ → FVec Ideal S1x512 .f32)
    (hb : S1x512.Broadcasts (Cols m)) (hs : S8x512.Slices ![0, 0] (Cols m)) (i : Fin m) (j : Fin 512) :
    addf (broadcastTo (Cols m) r hb) (extractStridedSlice (Cols m) ![0, 0] (stack8 g) hs) (ix2 i j)
      = r (ix2 0 j) + g i.val (ix2 0 j) := by
  show broadcastTo (Cols m) r hb (ix2 i j) + extractStridedSlice (Cols m) ![0, 0] (stack8 g) hs (ix2 i j) = _
  rw [downRows]
  refine congrArg (r (ix2 0 j) + ·) ((extractStridedSlice_apply _ _ hs _ (ix2 ⟨i.val, by omega⟩ j) fun a => match a with
    | ⟨0, _⟩ => (Nat.zero_add _).symm | ⟨1, _⟩ => (Nat.zero_add _).symm).trans ?_)
  exact stack8_apply g ⟨i.val, by omega⟩ j

/-- Which row and column each candidate's sum has. -/
theorem place_row_col : ∀ p : Fin 24,
    (p.val < 8 → (place p).val / 8 = 0 ∧ (place p).val % 8 = p.val)
    ∧ (8 ≤ p.val → p.val < 12 → (place p).val / 8 = 1 ∧ (place p).val % 8 = p.val - 8)
    ∧ (12 ≤ p.val → p.val < 14 → (place p).val / 8 = 2 ∧ (place p).val % 8 = p.val - 12)
    ∧ (14 ≤ p.val → p.val < 16 → (place p).val / 8 = 3 ∧ (place p).val % 8 = p.val - 14)
    ∧ (16 ≤ p.val → p.val < 20 → (place p).val / 8 = p.val - 12 ∧ (place p).val % 8 = 0) := by decide +kernel

/-- A candidate row holds its sum. -/
theorem pruned_apply (f g : ℕ → FVec Ideal S1x512 .f32) (z : BitVec 32) (p : Fin 24) (hp : p.val < 20) (j : Fin 512) :
    pruned f g z (ix2 p j) = f ((place p).val / 8) (ix2 0 j) + g ((place p).val % 8) (ix2 0 j) := by
  obtain ⟨h0, h1, h2, h3, h4⟩ := place_row_col p
  unfold pruned
  by_cases c0 : p.val < 8
  · rw [(h0 c0).1, (h0 c0).2]
    refine (stack_apply _ _ 0 (by simp) (m := 8) _ rfl 0 rfl ⟨p.val, c0⟩ p (Nat.zero_add _) j).trans ?_
    show broadcastTo (Cols 8) (f 0) broadcasts_S1x512_S8x512 (ix2 ⟨p.val, c0⟩ j) + stack8 g (ix2 ⟨p.val, c0⟩ j) = _
    rw [downRows, stack8_apply]
  by_cases c1 : p.val < 12
  · rw [(h1 (by omega) c1).1, (h1 (by omega) c1).2]
    exact (stack_apply _ _ 1 (by simp) (m := 4) _ rfl 8 rfl ⟨p.val - 8, by omega⟩ p (by show 8 + (p.val - 8) = _; omega) j).trans
      (addRows_apply (by decide) _ _ _ _ _ j)
  by_cases c2 : p.val < 14
  · rw [(h2 (by omega) c2).1, (h2 (by omega) c2).2]
    exact (stack_apply _ _ 2 (by simp) (m := 2) _ rfl 12 rfl ⟨p.val - 12, by omega⟩ p (by show 12 + (p.val - 12) = _; omega) j).trans
      (addRows_apply (by decide) _ _ _ _ _ j)
  by_cases c3 : p.val < 16
  · rw [(h3 (by omega) c3).1, (h3 (by omega) c3).2]
    exact (stack_apply _ _ 3 (by simp) (m := 2) _ rfl 14 rfl ⟨p.val - 14, by omega⟩ p (by show 14 + (p.val - 14) = _; omega) j).trans
      (addRows_apply (by decide) _ _ _ _ _ j)
  rw [(h4 (by omega) hp).1, (h4 (by omega) hp).2]
  have h : p.val = 16 ∨ p.val = 17 ∨ p.val = 18 ∨ p.val = 19 := by omega
  rcases h with h | h | h | h <;> rw [h]
  · exact (stack_apply _ _ 4 (by simp) (m := 1) _ rfl 16 rfl 0 p h.symm j).trans rfl
  · exact (stack_apply _ _ 5 (by simp) (m := 1) _ rfl 17 rfl 0 p h.symm j).trans rfl
  · exact (stack_apply _ _ 6 (by simp) (m := 1) _ rfl 18 rfl 0 p h.symm j).trans rfl
  · exact (stack_apply _ _ 7 (by simp) (m := 1) _ rfl 19 rfl 0 p h.symm j).trans rfl

/-- A filler row holds the filler. -/
theorem pruned_filler (f g : ℕ → FVec Ideal S1x512 .f32) (z : BitVec 32) (p : Fin 24) (hp : 20 ≤ p.val) (j : Fin 512) :
    pruned f g z (ix2 p j) = Ideal.ofBits .f32 z := by
  unfold pruned
  exact (stack_apply _ _ 8 (by simp) (m := 4) _ rfl 20 rfl ⟨p.val - 20, by omega⟩ p (by show 20 + (p.val - 20) = _; omega) j).trans rfl

/-- The expert at a row is the sum over the rows of the candidates, every other row's taken as zero. -/
theorem expertAt_apply (pos : FVec Ideal S1x512 .f32) (cand : FVec Ideal S24x512 .f32) (j : Fin 512) :
    expertAt pos cand (ix2 0 j)
      = ∑ p : Fin 24, if (((p : ℕ) : ℝ) : EReal) = pos (ix2 0 j) then column cand j p else 0 := by
  refine (colSum_apply (select (cmpf .oeq (rowNo rows24) (broadcastTo S24x512 pos broadcasts_S1x512_S24x512)) cand
    (broadcast S24x512 (Scalar.ofBits .f32 0x00000000#32))) reduces_S24x512_S512 (.inl rfl) rfl shapeCasts_S512_S1x512 j).trans ?_
  refine Finset.sum_congr rfl fun p _ => ?_
  show Scalar.select (FloatOps.cmpf (F := Ideal) .oeq (rowNo rows24 (ix2 p j))
    (broadcastTo (Cols 24) pos broadcasts_S1x512_S24x512 (ix2 p j))) (cand (ix2 p j)) (Ideal.ofBits .f32 0x00000000#32) = _
  rw [select_eq, downRows, rowNo_apply rows24 (by norm_num), Ideal.ofBits_zero_f32]

/-! ## One head's candidates -/

section Head

variable {s0 s1 : FVec Ideal S128x512 .f32} {j : Fin 512}

/-- The word that stands for no row among 128 is the number 128. -/
theorem width128 : Ideal.ofBits .f32 0x43000000#32 = (((128 : ℕ) : ℝ) : EReal) := by rw [Field.bits_128]; norm_num
/-- The word that stands for no row among 24 is the number 24. -/
theorem width24 : Ideal.ofBits .f32 0x41C00000#32 = (((24 : ℕ) : ℝ) : EReal) := by rw [Field.bits_24]; norm_num

/-- The rounds over a half's scores take the best eight. -/
theorem half_val {s : FVec Ideal S128x512 .f32} (h : Spec.Real' (column s j)) (k : Fin 8) :
    topVal rows128 0x43000000#32 s k.val (ix2 0 j) = column s j (Spec.best (column s j) k) :=
  topVal_apply rows128 (by norm_num) _ width128 s j 8 (by norm_num) (fun _ _ _ => h.bot_lt _) k.val k.isLt

/-- The rounds over a half's scores find the positions of the best eight. -/
theorem half_row {s : FVec Ideal S128x512 .f32} (h : Spec.Real' (column s j)) (k : Fin 8) :
    topRow rows128 0x43000000#32 s k.val (ix2 0 j) = (((Spec.best (column s j) k : ℕ) : ℝ) : EReal) :=
  topRow_apply rows128 (by norm_num) _ width128 s j 8 (by norm_num) (fun _ _ _ => h.bot_lt _) k.val k.isLt

variable (h0 : Spec.Real' (column s0 j)) (h1 : Spec.Real' (column s1 j))
include h0 h1

/-- The candidates hold the sums that can be among the best eight. -/
theorem prunes : Prunes (column (combOf s0 s1) j) (Spec.sums (column s0 j) (column s1 j)) where
  cand p hp := (pruned_apply _ _ _ p hp j).trans
    (congrArg₂ (· + ·) (half_val h0 (Spec.row (place p))) (half_val h1 (Spec.col (place p))))
  pad p hp := (pruned_filler _ _ _ p hp j).trans Field.bits_bot
  real := (Spec.sums_real h0 h1).bot_lt
  falls := Spec.sums_falls

/-- The best eight candidates are above `⊥`. -/
theorem comb_bot (k : ℕ) (hk : k < 24) (h8 : k < 8) :
    ⊥ < column (combOf s0 s1) j (Rank.nth (column (combOf s0 s1) j) k hk) := by
  rw [(prunes h0 h1).cand _ ((prunes h0 h1).nth_lt h8)]
  exact (prunes h0 h1).real _

/-- Round `k` takes the score of slot `k`. -/
theorem comb_val (k : Fin 8) :
    topVal rows24 0x41C00000#32 (combOf s0 s1) k.val (ix2 0 j) = Spec.top (column s0 j) (column s1 j) k := by
  refine (topVal_apply rows24 (by norm_num) _ width24 _ j 8 (by norm_num) (comb_bot h0 h1) k.val k.isLt).trans ?_
  rw [(prunes h0 h1).cand _ ((prunes h0 h1).nth_lt k.isLt), Spec.top, Spec.pick, (prunes h0 h1).nth k.isLt]

/-- The candidate row that round `k` takes names the expert of slot `k`. -/
theorem comb_expert (k : Fin 8) :
    slotExpert (combOf s0 s1) (candOf s0 s1) k.val (ix2 0 j)
      = (((Spec.expert (column s0 j) (column s1 j) k : ℕ) : ℝ) : EReal) := by
  set N := Rank.nth (column (combOf s0 s1) j) k.val (by omega) with hN
  have hlt : N.val < 20 := (prunes h0 h1).nth_lt k.isLt
  have hpos : topRow rows24 0x41C00000#32 (combOf s0 s1) k.val (ix2 0 j) = (((N : ℕ) : ℝ) : EReal) :=
    topRow_apply rows24 (by norm_num) _ width24 _ j 8 (by norm_num) (comb_bot h0 h1) k.val k.isLt
  have hcand : candOf s0 s1 (ix2 N j) = (((Spec.expert (column s0 j) (column s1 j) k : ℕ) : ℝ) : EReal) := by
    refine (pruned_apply _ _ _ N hlt j).trans ?_
    refine (congrArg₂ (· + ·) (half_row h0 (Spec.row (place N))) (half_row h1 (Spec.col (place N)))).trans ?_
    rw [Spec.expert, Spec.pick, (prunes h0 h1).nth k.isLt, ← EReal.coe_add, ← Nat.cast_add]
    rfl
  refine (expertAt_apply _ _ j).trans ?_
  have e : ∀ p : Fin 24, ((((p : ℕ) : ℝ) : EReal) = (((N : ℕ) : ℝ) : EReal)) ↔ p = N := fun p => by
    rw [EReal.coe_eq_coe_iff, Nat.cast_inj, Fin.ext_iff]
  rw [hpos]
  simp only [e]
  rw [Finset.sum_ite_eq' univ N, if_pos (mem_univ _)]
  exact hcand

end Head

end Cert.KernelIdeal.Body
-- ==== Proof.Slots.lean ====
/-
What one block's computation holds, entry by entry: the eight slots' and the eight heads' weights laid on their
experts' rows, and the product with the experts' outputs, which is the layer's output of each token of the block.
-/
module

public import proofs.«01_k».proof.Proof.Candidates

@[expose] public section

noncomputable section

open Finset Idealize.ShloMosaic Idealize.ShloMosaic.ValueIdx

namespace Cert.KernelIdeal.Body

open Cert.KernelIdeal Cert.KernelIdeal.Gen

/-- The short word of zero. -/
theorem bits_zero_bf16 : Ideal.ofBits .bf16 0x0000#16 = 0 := by simp [Ideal.ofBits, Ideal.ieee]

/-- A choice by the expert: the rows that are the expert `E`. -/
theorem isExpert_select {α : Type} (e : FVec Ideal S1x512 .bf16) (E i : Fin 256) (j : Fin 512)
    (he : e (ix2 0 j) = (((E : ℕ) : ℝ) : EReal)) (a b : α) :
    Scalar.select (isExpert e (ix2 i j)) a b = if i = E then a else b := by
  classical
  show Scalar.select (FloatOps.cmpf (F := Ideal) (φ := .bf16) .oeq
    (broadcastTo (Cols 256) e broadcasts_S1x512_S256x512 (ix2 i j)) (expertNo (ix2 i j))) a b = _
  have hi : expertNo (F := Ideal) (ix2 i j) = (((i : ℕ) : ℝ) : EReal) := by
    show (((iota .tc (Cols 256) 32 [0] iota_S256x512_d0_w32 (ix2 i j)).toInt : ℝ) : EReal) = _
    rw [iota_single_apply]
    show (((BitVec.ofNat 32 i.val).toInt : ℝ) : EReal) = _
    rw [Field.toInt_ofNat (by omega)]
    norm_num
  rw [select_eq, downRows, he, hi]
  have : ((((E : ℕ) : ℝ) : EReal) = (((i : ℕ) : ℝ) : EReal)) ↔ i = E := by
    rw [EReal.coe_eq_coe_iff, Nat.cast_inj, Fin.ext_iff, eq_comm]
  simp only [this]

/-- The expert's product is the one at its row. -/
theorem down_apply (e : FVec Ideal S1x512 .bf16) (d : FVec Ideal S256x512 .bf16) (E : Fin 256) (j : Fin 512)
    (he : e (ix2 0 j) = (((E : ℕ) : ℝ) : EReal)) : down e d (ix2 0 j) = d (ix2 E j) := by
  refine (colSum_apply (extf .f32 (select (isExpert e) d (broadcast S256x512 (Scalar.ofBits .bf16 0x0000#16))) bitsLt_bf16_f32)
    reduces_S256x512_S512 (.inl rfl) rfl shapeCasts_S512_S1x512 j).trans ?_
  refine (Finset.sum_congr rfl fun i _ => ?_ : _ = ∑ i : Fin 256, if i = E then d (ix2 i j) else 0).trans ?_
  · show Scalar.select (isExpert e (ix2 i j)) (d (ix2 i j)) (Ideal.ofBits .bf16 0x0000#16) = _
    rw [isExpert_select e E i j he, bits_zero_bf16]
  · rw [Finset.sum_ite_eq' univ E, if_pos (mem_univ _)]

/-- A weight laid on the expert's row. -/
theorem spread_apply (e w : FVec Ideal S1x512 .bf16) (E i : Fin 256) (j : Fin 512)
    (he : e (ix2 0 j) = (((E : ℕ) : ℝ) : EReal)) : spread e w (ix2 i j) = if i = E then w (ix2 0 j) else 0 := by
  show Scalar.select (isExpert e (ix2 i j)) (broadcastTo (Cols 256) (shapeCast S1x512 w shapeCasts_S1x512_S1x512)
    broadcasts_S1x512_S256x512 (ix2 i j)) (Ideal.ofBits .bf16 0x0000#16) = _
  rw [isExpert_select e E i j he, bits_zero_bf16, downRows, shapeCast_self]

/-- One slot's weight: the activation times the softmax weight. -/
theorem weight_apply (u g : FVec Ideal S1x512 .f32) (j : Fin 512) :
    weight u g (ix2 0 j) = Spec.act (u (ix2 0 j)) * g (ix2 0 j) := by
  show Ideal.ofBits .f32 0x3F000000#32 * u (ix2 0 j) * (Ideal.ofBits .f32 0x3F800000#32
    + Ideal.erf (u (ix2 0 j) * Ideal.ofBits .f32 0x3F3504F3#32)) * g (ix2 0 j) = _
  rw [Ideal.ofBits_one_f32]; rfl

/-- Eight rows added up. -/
theorem sum8_apply (f : ℕ → FVec Ideal S1x512 .f32) (i : S1x512.Idx) :
    addf (addf (addf (addf (addf (addf (addf (f 0) (f 1)) (f 2)) (f 3)) (f 4)) (f 5)) (f 6)) (f 7) i
      = ∑ k : Fin 8, f k.val i := by
  rw [Fin.sum_univ_eight]; rfl

/-- Eight arrays added to `acc` one after the other. -/
theorem rec8_apply (f : ℕ → FVec Ideal S256x512 .bf16) (acc : FVec Ideal S256x512 .bf16) (i : S256x512.Idx) :
    (Nat.rec acc (fun k a => addf a (f k)) 8 : FVec Ideal S256x512 .bf16) i = acc i + ∑ k : Fin 8, f k.val i := by
  rw [Fin.sum_univ_eight]
  simp only [← add_assoc]
  rfl

/-- A slot's exponential. -/
theorem expo_eq (comb : FVec Ideal S24x512 .f32) (k : ℕ) (i : S1x512.Idx) : expo comb k i
    = Ideal.exp (topVal rows24 0x41C00000#32 comb k i - topVal rows24 0x41C00000#32 comb 0 i) := by
  unfold expo
  generalize topVal rows24 0x41C00000#32 comb k = a
  generalize topVal rows24 0x41C00000#32 comb 0 = b
  rfl

/-- One over the sum of the eight exponentials. -/
theorem invSum_eq (comb : FVec Ideal S24x512 .f32) (i : S1x512.Idx) :
    invSum comb i = Ideal.div 1 (∑ k : Fin 8, expo comb k.val i) := by
  rw [← sum8_apply (expo comb), ← Ideal.ofBits_one_f32]
  unfold invSum
  generalize addf (addf (addf (addf (addf (addf (addf (expo comb 0) (expo comb 1)) (expo comb 2)) (expo comb 3))
    (expo comb 4)) (expo comb 5)) (expo comb 6)) (expo comb 7) = z
  rfl

section Head

variable {s0 s1 : FVec Ideal S128x512 .f32} {j : Fin 512} (h0 : Spec.Real' (column s0 j)) (h1 : Spec.Real' (column s1 j))
include h0 h1

/-- A slot's exponential, of the best sums. -/
theorem expo_apply (k : Fin 8) : expo (combOf s0 s1) k.val (ix2 0 j)
    = Ideal.exp (Spec.top (column s0 j) (column s1 j) k - Spec.top (column s0 j) (column s1 j) 0) := by
  have e0 : topVal rows24 0x41C00000#32 (combOf s0 s1) 0 (ix2 0 j) = _ := comb_val h0 h1 0
  rw [expo_eq, comb_val h0 h1 k, e0]

/-- One over the exponentials' sum, of the best sums. -/
theorem invSum_apply : invSum (combOf s0 s1) (ix2 0 j) = Ideal.div 1
    (∑ k, Ideal.exp (Spec.top (column s0 j) (column s1 j) k - Spec.top (column s0 j) (column s1 j) 0)) := by
  rw [invSum_eq]
  simp only [expo_apply h0 h1]

/-- Slot `k` adds its weight on its expert's row. -/
theorem slot_apply (d : FVec Ideal S256x512 .bf16) (u : Fin 256 → EReal) (hd : ∀ e, d (ix2 e j) = u e) (k : Fin 8) (i : Fin 256) :
    slot d (combOf s0 s1) (candOf s0 s1) k.val (ix2 i j)
      = if i = Spec.expert (column s0 j) (column s1 j) k then Spec.weight u (column s0 j) (column s1 j) k else 0 := by
  have he := comb_expert h0 h1 k
  unfold slot
  rw [spread_apply _ _ _ i j he, weight_apply, down_apply _ d _ j he, hd]
  rw [mulf_apply, expo_apply h0 h1 k, invSum_apply h0 h1, Spec.weight, Spec.gate]

/-- A head adds its eight slots. -/
theorem slots_apply (d : FVec Ideal S256x512 .bf16) (u : Fin 256 → EReal) (hd : ∀ e, d (ix2 e j) = u e)
    (acc : FVec Ideal S256x512 .bf16) (i : Fin 256) :
    slots d (combOf s0 s1) (candOf s0 s1) acc (ix2 i j) = acc (ix2 i j)
      + ∑ k, if i = Spec.expert (column s0 j) (column s1 j) k then Spec.weight u (column s0 j) (column s1 j) k else 0 := by
  unfold slots
  rw [rec8_apply (slot d (combOf s0 s1) (candOf s0 s1))]
  simp only [slot_apply h0 h1 d u hd]

end Head

section Block

variable (x : FVec Ideal S512x768 .f32) (wq : FVec Ideal S2048x768 .f32) (k0 k1 : FVec Ideal S128x128 .f32)
  (ed eu : FVec Ideal S256x768 .f32) (j : Fin 512)

/-- The two halves' scores of head `h` of the block's token `j`. -/
def scores0 (h : Fin 8) : Fin 128 → EReal :=
  Spec.score (entries k0) (Spec.lo (Spec.norm (Spec.query (entries x j) (fun d i => entries wq i d) h)))
/-- The scores of the block's token `j` against the second key table. -/
def scores1 (h : Fin 8) : Fin 128 → EReal :=
  Spec.score (entries k1) (Spec.hi (Spec.norm (Spec.query (entries x j) (fun d i => entries wq i d) h)))

/-- One head adds its eight slots' weights. -/
theorem head_apply (h : Fin 8) (hs : S2048x512.Slices ![256 * h.val, 0] S256x512) (acc : FVec Ideal S256x512 .bf16)
    (i : Fin 256) :
    head (queries x wq) k0 k1 (dense x ed) h.val hs acc (ix2 i j) = acc (ix2 i j)
      + ∑ k, if i = Spec.expert (scores0 x wq k0 j h) (scores1 x wq k1 j h) k
          then Spec.weight (Spec.hidden (entries x j) (entries ed)) (scores0 x wq k0 j h) (scores1 x wq k1 j h) k else 0 := by
  have e0 : column (score0 k0 (headQuery (queries x wq) h.val hs)) j = scores0 x wq k0 j h := by
    rw [score0_apply, headQuery_apply]; rfl
  have e1 : column (score1 k1 (headQuery (queries x wq) h.val hs)) j = scores1 x wq k1 j h := by
    rw [score1_apply, headQuery_apply]; rfl
  have := slots_apply (s0 := score0 k0 (headQuery (queries x wq) h.val hs)) (s1 := score1 k1 (headQuery (queries x wq) h.val hs))
    (j := j) (by rw [e0]; exact Spec.score_real _ _) (by rw [e1]; exact Spec.score_real _ _) (dense x ed) _
    (fun e => dense_apply x ed e j) acc i
  rw [e0, e1] at this
  exact this

/-- The eight heads' weights, expert by expert. -/
theorem heads_apply (i : Fin 256) : heads (queries x wq) k0 k1 (dense x ed) (ix2 i j)
    = ∑ h, ∑ k, if i = Spec.expert (scores0 x wq k0 j h) (scores1 x wq k1 j h) k
          then Spec.weight (Spec.hidden (entries x j) (entries ed)) (scores0 x wq k0 j h) (scores1 x wq k1 j h) k else 0 := by
  have e := fun h hs acc => head_apply x wq k0 k1 ed j h hs acc i
  generalize hS : (fun h : Fin 8 => ∑ k, if i = Spec.expert (scores0 x wq k0 j h) (scores1 x wq k1 j h) k
          then Spec.weight (Spec.hidden (entries x j) (entries ed)) (scores0 x wq k0 j h) (scores1 x wq k1 j h) k else 0) = S
  replace e : ∀ (h : Fin 8) (hs : S2048x512.Slices ![256 * h.val, 0] S256x512) (acc : FVec Ideal S256x512 .bf16),
      head (queries x wq) k0 k1 (dense x ed) h.val hs acc (ix2 i j) = acc (ix2 i j) + S h :=
    fun h hs acc => (e h hs acc).trans (congrArg (_ + ·) (congrFun hS h))
  show _ = ∑ h, S h
  unfold heads
  rw [Fin.sum_univ_eight]
  refine (e 7 _ _).trans (congrArg (· + S 7) ?_)
  refine (e 6 _ _).trans (congrArg (· + S 6) ?_)
  refine (e 5 _ _).trans (congrArg (· + S 5) ?_)
  refine (e 4 _ _).trans (congrArg (· + S 4) ?_)
  refine (e 3 _ _).trans (congrArg (· + S 3) ?_)
  refine (e 2 _ _).trans (congrArg (· + S 2) ?_)
  refine (e 1 _ _).trans (congrArg (· + S 1) ?_)
  refine (e 0 _ _).trans ?_
  show Ideal.ofBits .bf16 0x0000#16 + _ = _
  rw [bits_zero_bf16, zero_add]

/-- The product over the experts. -/
theorem out_product (a : FVec Ideal S256x512 .bf16) (c : Fin 768) :
    matmul dot_S256x512_S256x768_S512x768_0_0_1_1_n_n none a eu (constant S512x768 .f32 0x00000000#32) (ix2 j c)
      = ∑ i : Fin 256, a (ix2 i j) * eu (ix2 i c) := by
  set D := dot_S256x512_S256x768_S512x768_0_0_1_1_n_n
  refine (Ideal.matmul_constant_zero_apply D none a eu (ix2 j c)).trans ?_
  rw [← Equiv.sum_comp (contrEquiv1 D 256 rfl rfl).symm]
  refine Finset.sum_congr rfl fun k _ => ?_
  have hk := contrEquiv1_symm_val D 256 rfl rfl k
  have el : D.lhsIdx (ix2 j c) ((contrEquiv1 D 256 rfl rfl).symm k) = ix2 k j := funext fun a => Fin.ext (by
    match a with
    | ⟨0, _⟩ => exact (D.lhsIdx_val_of_single rfl _ _).trans hk
    | ⟨1, _⟩ =>
      show (D.lhsIdx _ _ 1).val = j.val
      unfold DotDims.lhsIdx
      rw [dif_neg (show ¬(1 : Fin S256x512.rank) ∈ D.lhsBatch by decide),
        dif_pos (show (1 : Fin S256x512.rank) ∈ D.lhsNonContracting by decide)]
      rfl)
  have er : D.rhsIdx (ix2 j c) ((contrEquiv1 D 256 rfl rfl).symm k) = ix2 k c := funext fun a => Fin.ext (by
    match a with
    | ⟨0, _⟩ => exact (D.rhsIdx_val_of_single rfl _ _).trans hk
    | ⟨1, _⟩ =>
      show (D.rhsIdx _ _ 1).val = c.val
      unfold DotDims.rhsIdx
      rw [dif_neg (show ¬(1 : Fin S256x768.rank) ∈ D.rhsBatch by decide),
        dif_pos (show (1 : Fin S256x768.rank) ∈ D.rhsNonContracting by decide)]
      rfl)
  rw [el, er]

/-- One block's computation: entry `c` of the layer's output of its token `j`. -/
theorem result_apply (c : Fin 768) :
    result x wq k0 k1 ed eu (ix2 j c)
      = Spec.out (Spec.hidden (entries x j) (entries ed)) (scores0 x wq k0 j) (scores1 x wq k1 j) fun i => entries eu i c := by
  unfold result
  rw [out_product]
  simp only [heads_apply]
  exact Spec.spread_eq_out _ _ _ _ (fun _ => Spec.score_real _ _) fun _ => Spec.score_real _ _

end Block

end Cert.KernelIdeal.Body
-- ==== Proof.Layer.lean ====
/-
The layer as a whole: entry `c` of token `n`'s output, a function of the tokens, the query weights, the two key tables
and the experts' two tables.
-/
module

public import proofs.«01_k».proof.Proof.Spec

@[expose] public section

noncomputable section

open Finset Idealize.ShloMosaic

namespace Cert.Spec

/-- The scores of head `h`'s first query half against the first key table. -/
def scoresLo (x : Fin 768 → EReal) (W : Fin 768 → Fin 2048 → EReal) (K : Fin 128 → Fin 128 → EReal) (h : Fin 8) :
    Fin 128 → EReal := score K (lo (norm (query x W h)))

/-- The scores of head `h`'s second query half against the second key table. -/
def scoresHi (x : Fin 768 → EReal) (W : Fin 768 → Fin 2048 → EReal) (K : Fin 128 → Fin 128 → EReal) (h : Fin 8) :
    Fin 128 → EReal := score K (hi (norm (query x W h)))

/-- The first 256 rows of an expert table: the only ones a sum of two key numbers names. -/
def firstRows (T : Fin 16384 → Fin 768 → EReal) (e : Fin 256) : Fin 768 → EReal := T ⟨e.val, by omega⟩

/-- Entry `c` of the output of the token `x`. -/
def layer (x : Fin 768 → EReal) (W : Fin 768 → Fin 2048 → EReal) (K0 K1 : Fin 128 → Fin 128 → EReal)
    (ed eu : Fin 16384 → Fin 768 → EReal) (c : Fin 768) : EReal :=
  out (hidden x (firstRows ed)) (scoresLo x W K0) (scoresHi x W K1) fun e => firstRows eu e c

end Cert.Spec
-- ==== Proof.KernelArray.lean ====
/-
What the kernel's result array holds after the run: entry `(n, c)` is entry `c` of the layer's output of token `n`. Each
of the four grid points writes the 512 rows of its own block; the other operands' blocks are the whole arrays, of the
experts' tables the first 256 rows.
-/
module

public import proofs.«01_k».proof.Proof.BodyEq
public import proofs.«01_k».proof.Proof.Slots
public import proofs.«01_k».proof.Proof.Layer
public import proofs.«01_k».proof.Proof.Gen.KernelIdeal.Value

@[expose] public section

noncomputable section

namespace Cert.KernelIdeal.Array

open Cert.KernelIdeal Cert.KernelIdeal.Gen Cert.KernelIdeal.Value Idealize.ShloMosaic Idealize.ShloMosaic.TcCoe
open Idealize.ShloMosaic.ValueIdx Idealize.SL.Sem

/-- The origin of a block read whole. -/
theorem hz : (![0, 0] : Fin 2 → Nat) = fun _ => 0 := funext fun a => by fin_cases a <;> rfl

/-- What the body leaves in the output block is the block's computation of the whole input blocks. -/
theorem out_eq_result (x0 : Vec Ideal S512x768 .f32) (x1 : Vec Ideal S2048x768 .f32) (x2 x3 : Vec Ideal S128x128 .f32)
    (x4 x5 : Vec Ideal S256x768 .f32) : out0_6 x0 x1 x2 x3 x4 x5 = Body.result (F := Ideal) x0 x1 x2 x3 x4 x5 := by
  rw [Body.out_eq, View.ld_unit_zero hz, View.ld_unit_zero hz, View.ld_unit_zero hz, View.ld_unit_zero hz,
    View.ld_unit_zero hz, View.ld_unit_zero hz]
  exact View.canon_unit_zero hz _ _

variable (m : (ℓ : Loc nD τ sig) → Buf (Elt Ideal) ℓ) (c : Dev nD)

/-- The tokens, entry by entry. -/
abbrev tokens (n : Fin 2048) (d : Fin 768) : EReal := m ((c : Thread nD τ).loc main_arg0) (ix3 0 n d)
/-- The query weights. -/
abbrev weights (d : Fin 768) (i : Fin 2048) : EReal := m ((c : Thread nD τ).loc main_arg1) (ix2 d i)
/-- The two key tables. -/
abbrev keysLo (r i : Fin 128) : EReal := m ((c : Thread nD τ).loc main_arg5) (ix2 r i)
/-- The second key table. -/
abbrev keysHi (r i : Fin 128) : EReal := m ((c : Thread nD τ).loc main_arg6) (ix2 r i)
/-- The experts' two tables. -/
abbrev down (e : Fin 16384) (d : Fin 768) : EReal := m ((c : Thread nD τ).loc main_arg7) (ix2 e d)
/-- The experts' second table. -/
abbrev up (e : Fin 16384) (d : Fin 768) : EReal := m ((c : Thread nD τ).loc main_arg8) (ix2 e d)

/-- The region finds the tokens laid out as a matrix. -/
theorem V_tokens : V m c main_call0_v0
    = shapeCast S2048x768 (m ((c : Thread nD τ).loc main_arg0)) shapeCasts_S1x2048x768_S2048x768 := by
  simp only [V, StableHlo.after_cons, StableHlo.after_nil, hostOps0]
  rfl

/-- The region finds the query weights transposed. -/
theorem V_weights : V m c main_call0_v1
    = transpose S2048x768 [1, 0] (m ((c : Thread nD τ).loc main_arg1)) transposes_S768x2048_S2048x768_1_0 := by
  simp only [V, StableHlo.after_cons, StableHlo.after_nil, hostOps0]
  rfl

/-- Which block of each array a grid point stages: of the tokens its own, of the other inputs the only one, of the
output its own. -/
theorem index0 : ∀ t : Fin cfg0.N, win0_0.index t (0 : Fin 2) = t.val ∧ win0_0.index t (1 : Fin 2) = 0 :=
  (by decide +kernel : ∀ t : Fin grid0.N, _)
/-- The query weights' block. -/
theorem index1 : ∀ t : Fin cfg0.N, win0_1.index t (0 : Fin 2) = 0 ∧ win0_1.index t (1 : Fin 2) = 0 :=
  (by decide +kernel : ∀ t : Fin grid0.N, _)
/-- The first key table's block. -/
theorem index2 : ∀ t : Fin cfg0.N, win0_2.index t (0 : Fin 2) = 0 ∧ win0_2.index t (1 : Fin 2) = 0 :=
  (by decide +kernel : ∀ t : Fin grid0.N, _)
/-- The second key table's block. -/
theorem index3 : ∀ t : Fin cfg0.N, win0_3.index t (0 : Fin 2) = 0 ∧ win0_3.index t (1 : Fin 2) = 0 :=
  (by decide +kernel : ∀ t : Fin grid0.N, _)
/-- The experts' first table's block. -/
theorem index4 : ∀ t : Fin cfg0.N, win0_4.index t (0 : Fin 2) = 0 ∧ win0_4.index t (1 : Fin 2) = 0 :=
  (by decide +kernel : ∀ t : Fin grid0.N, _)
/-- The experts' second table's block. -/
theorem index5 : ∀ t : Fin cfg0.N, win0_5.index t (0 : Fin 2) = 0 ∧ win0_5.index t (1 : Fin 2) = 0 :=
  (by decide +kernel : ∀ t : Fin grid0.N, _)
/-- The output's block. -/
theorem index6 : ∀ t : Fin cfg0.N, win0_6.index t (0 : Fin 2) = t.val ∧ win0_6.index t (1 : Fin 2) = 0 :=
  (by decide +kernel : ∀ t : Fin grid0.N, _)

/-- There are four grid points. -/
theorem points (t : Fin cfg0.N) : t.val < 4 := t.isLt

/-- The token that row `j` of point `t`'s block is. -/
def tokenNo (t : Fin cfg0.N) (j : Fin 512) : Fin 2048 := ⟨t.val * 512 + j.val, by have := points t; omega⟩

/-- Point `t`'s block of the tokens: 512 rows from row `512 t`. -/
theorem iblk0 (t : Fin cfg0.N) (j : Fin 512) (d : Fin 768) :
    iblk m c 0 t (ix2 j d) = tokens m c (tokenNo t j) d := by
  have e : ((cfg0.win 0).blk t).view.emb (ix2 j d) = (ix2 (tokenNo t j) d : S2048x768.Idx) := by
    obtain ⟨e0, e1⟩ := index0 t
    funext a; apply Fin.ext
    match a with
    | ⟨0, _⟩ => show win0_0.index t (0 : Fin 2) * 512 + 1 * j.val = t.val * 512 + j.val; omega
    | ⟨1, _⟩ => show win0_0.index t (1 : Fin 2) * 768 + 1 * d.val = d.val; omega
  show V m c main_call0_v0 (((cfg0.win 0).blk t).view.emb (ix2 j d)) = _
  rw [e, V_tokens]
  refine shapeCast_apply _ _ _ (ix3 0 (tokenNo t j) d) ?_
  rw [Shape.rowMajor_val_three, Shape.rowMajor_val_two]
  simp [ix3, ix2]

/-- Every point's block of the query weights: the whole transposed matrix. -/
theorem iblk1 (t : Fin cfg0.N) (i : Fin 2048) (d : Fin 768) : iblk m c 1 t (ix2 i d) = weights m c d i := by
  have e : ((cfg0.win 1).blk t).view.emb (ix2 i d) = (ix2 i d : S2048x768.Idx) := by
    obtain ⟨e0, e1⟩ := index1 t
    funext a; apply Fin.ext
    match a with
    | ⟨0, _⟩ => show win0_1.index t (0 : Fin 2) * 2048 + 1 * i.val = i.val; omega
    | ⟨1, _⟩ => show win0_1.index t (1 : Fin 2) * 768 + 1 * d.val = d.val; omega
  show V m c main_call0_v1 (((cfg0.win 1).blk t).view.emb (ix2 i d)) = _
  rw [e, V_weights]
  exact transpose_apply _ _ transposes_S768x2048_S2048x768_1_0 (ix2 i d) (ix2 d i) fun a =>
    match a with | ⟨0, _⟩ => rfl | ⟨1, _⟩ => rfl

/-- Every point's block of the first key table: the whole table. -/
theorem iblk2 (t : Fin cfg0.N) (r i : Fin 128) : iblk m c 2 t (ix2 r i) = keysLo m c r i := by
  have e : ((cfg0.win 2).blk t).view.emb (ix2 r i) = (ix2 r i : S128x128.Idx) := by
    obtain ⟨e0, e1⟩ := index2 t
    funext a; apply Fin.ext
    match a with
    | ⟨0, _⟩ => show win0_2.index t (0 : Fin 2) * 128 + 1 * r.val = r.val; omega
    | ⟨1, _⟩ => show win0_2.index t (1 : Fin 2) * 128 + 1 * i.val = i.val; omega
  show V m c main_arg5 (((cfg0.win 2).blk t).view.emb (ix2 r i)) = _
  rw [e, V_main_arg5]

/-- Every point's block of the second key table: the whole table. -/
theorem iblk3 (t : Fin cfg0.N) (r i : Fin 128) : iblk m c 3 t (ix2 r i) = keysHi m c r i := by
  have e : ((cfg0.win 3).blk t).view.emb (ix2 r i) = (ix2 r i : S128x128.Idx) := by
    obtain ⟨e0, e1⟩ := index3 t
    funext a; apply Fin.ext
    match a with
    | ⟨0, _⟩ => show win0_3.index t (0 : Fin 2) * 128 + 1 * r.val = r.val; omega
    | ⟨1, _⟩ => show win0_3.index t (1 : Fin 2) * 128 + 1 * i.val = i.val; omega
  show V m c main_arg6 (((cfg0.win 3).blk t).view.emb (ix2 r i)) = _
  rw [e, V_main_arg6]

/-- Every point's block of the experts' first table: its first 256 rows. -/
theorem iblk4 (t : Fin cfg0.N) (r : Fin 256) (d : Fin 768) :
    iblk m c 4 t (ix2 r d) = Spec.firstRows (down m c) r d := by
  have e : ((cfg0.win 4).blk t).view.emb (ix2 r d) = (ix2 (⟨r.val, by omega⟩ : Fin 16384) d : S16384x768.Idx) := by
    obtain ⟨e0, e1⟩ := index4 t
    funext a; apply Fin.ext
    match a with
    | ⟨0, _⟩ => show win0_4.index t (0 : Fin 2) * 256 + 1 * r.val = r.val; omega
    | ⟨1, _⟩ => show win0_4.index t (1 : Fin 2) * 768 + 1 * d.val = d.val; omega
  show V m c main_arg7 (((cfg0.win 4).blk t).view.emb (ix2 r d)) = _
  rw [e, V_main_arg7]
  rfl

/-- Every point's block of the experts' second table: its first 256 rows. -/
theorem iblk5 (t : Fin cfg0.N) (r : Fin 256) (d : Fin 768) :
    iblk m c 5 t (ix2 r d) = Spec.firstRows (up m c) r d := by
  have e : ((cfg0.win 5).blk t).view.emb (ix2 r d) = (ix2 (⟨r.val, by omega⟩ : Fin 16384) d : S16384x768.Idx) := by
    obtain ⟨e0, e1⟩ := index5 t
    funext a; apply Fin.ext
    match a with
    | ⟨0, _⟩ => show win0_5.index t (0 : Fin 2) * 256 + 1 * r.val = r.val; omega
    | ⟨1, _⟩ => show win0_5.index t (1 : Fin 2) * 768 + 1 * d.val = d.val; omega
  show V m c main_arg8 (((cfg0.win 5).blk t).view.emb (ix2 r d)) = _
  rw [e, V_main_arg8]
  rfl

/-- The array that the result is: the layer's output of every token. -/
def G (i : S2048x768.Idx) : EReal :=
  Spec.layer (tokens m c (i 0)) (weights m c) (keysLo m c) (keysHi m c) (down m c) (up m c) (i 1)

/-- Row `j` of point `t`'s output block is row `512 t + j` of the array. -/
theorem emb6 (t : Fin cfg0.N) (j : Fin 512) (d : Fin 768) :
    ((cfg0.win 6).blk t).view.emb (ix2 j d) = (ix2 (tokenNo t j) d : S2048x768.Idx) := by
  obtain ⟨e0, e1⟩ := index6 t
  funext a; apply Fin.ext
  match a with
  | ⟨0, _⟩ => show win0_6.index t (0 : Fin 2) * 512 + 1 * j.val = t.val * 512 + j.val; omega
  | ⟨1, _⟩ => show win0_6.index t (1 : Fin 2) * 768 + 1 * d.val = d.val; omega

/-- A block's computation of the point's input blocks is its rows of `G`. -/
theorem block_eq (t : Fin cfg0.N) (j : Fin 512) (d : Fin 768) :
    Body.result (F := Ideal) (iblk m c 0 t) (iblk m c 1 t) (iblk m c 2 t) (iblk m c 3 t) (iblk m c 4 t) (iblk m c 5 t) (ix2 j d)
      = Spec.layer (tokens m c (tokenNo t j)) (weights m c) (keysLo m c) (keysHi m c) (down m c) (up m c) d := by
  have h0 : Body.entries (iblk m c 0 t) j = tokens m c (tokenNo t j) := funext fun k => iblk0 m c t j k
  have h1 : (fun d i => Body.entries (iblk m c 1 t) i d) = weights m c := funext fun k => funext fun i => iblk1 m c t i k
  have h2 : Body.entries (iblk m c 2 t) = keysLo m c := funext fun k => funext fun i => iblk2 m c t k i
  have h3 : Body.entries (iblk m c 3 t) = keysHi m c := funext fun k => funext fun i => iblk3 m c t k i
  have h4 : Body.entries (iblk m c 4 t) = Spec.firstRows (down m c) := funext fun k => funext fun i => iblk4 m c t k i
  have h5 : (fun i => Body.entries (iblk m c 5 t) i d) = fun i => Spec.firstRows (up m c) i d :=
    funext fun k => iblk5 m c t k d
  rw [Body.result_apply _ _ _ _ _ _ j d]
  unfold Body.scores0 Body.scores1
  rw [h0, h1, h2, h3, h4, h5]
  rfl

/-- What the point writes back is its block of `G`. -/
theorem flushed_eq (t : Fin cfg0.N) :
    (dats m 0 c).flushed 6 t = ((cfg0.win 6).blk t).view.read (Elt Ideal) (G m c) := by
  rw [flushed6, out_eq_result]
  refine funext fun (i : S512x768.Idx) => ?_
  obtain ⟨j, d, rfl⟩ : ∃ j d, i = ix2 j d := ⟨i 0, i 1, eq_ix2 i⟩
  refine (block_eq m c t j d).trans ?_
  show _ = G m c (((cfg0.win 6).blk t).view.emb (ix2 j d))
  rw [emb6]
  rfl

/-- Every entry of the result is in some point's block. -/
theorem covered (i : S2048x768.Idx) :
    ∃ t : Fin cfg0.N, (cfg0.win 6).flush t = true ∧ i ∈ ((cfg0.win 6).blk t).view.set := by
  have h0 : (i 0).val < 2048 := (i 0).isLt
  let t : Fin cfg0.N := (⟨(i 0).val / 512, show (i 0).val / 512 < 4 by omega⟩ : Fin 4)
  refine ⟨t, flush0_6 t, ?_⟩
  have h := ((cfg0.win 6).blk t).view.emb_mem_set (ix2 (⟨(i 0).val % 512, by omega⟩ : Fin 512) (i 1) : S512x768.Idx)
  have e : (ix2 (tokenNo t ⟨(i 0).val % 512, by omega⟩) (i 1) : S2048x768.Idx) = i := by
    funext a; apply Fin.ext
    match a with
    | ⟨0, _⟩ => show (i 0).val / 512 * 512 + (i 0).val % 512 = (i 0).val; omega
    | ⟨1, _⟩ => rfl
  exact Eq.mp (congrArg (· ∈ ((cfg0.win 6).blk t).view.set) ((emb6 t _ _).trans e)) h

/-- The result array after the run. -/
theorem final : (dats m 0 c).arrAt 6 cfg0.N = G m c :=
  (dats m 0 c).arrAt_eq_of_cover 6 (G m c) (fun t _ => flushed_eq m c t) covered

end Cert.KernelIdeal.Array
-- ==== Proof.RefQuery.lean ====
/-
What the reference computes, first part: a token's query for each head, normalised, where the query's offset is zero and
the normalisation's scale one and its offset zero.
-/
module

public import proofs.«01_k».proof.Proof.Layer
public import proofs.«01_k».proof.Proof.Gen.ReferenceIdeal.Read

@[expose] public section

noncomputable section

open Finset

namespace Cert.Reference

open Cert.ReferenceIdeal Cert.ReferenceIdeal.Gen Cert.ReferenceIdeal.Read
open Idealize.ShloMosaic Idealize.ShloMosaic.TcCoe Idealize.ShloMosaic.ValueIdx

/-- An index of rank 1 to 5 is known by its coordinates. -/
theorem ix1_of {a : ℕ} {i : (⟨1, ![a]⟩ : Shape).Idx} {p : Fin a} (hp : (i 0).val = p.val) : i = ix1 p :=
  funext fun e => Fin.ext (by match e with | ⟨0, _⟩ => exact hp)

/-- An index of two axes with these coordinates. -/
theorem ix2_of {a b : ℕ} {i : (⟨2, ![a, b]⟩ : Shape).Idx} {p : Fin a} {q : Fin b} (hp : (i 0).val = p.val)
    (hq : (i 1).val = q.val) : i = ix2 p q :=
  funext fun e => Fin.ext (by match e with | ⟨0, _⟩ => exact hp | ⟨1, _⟩ => exact hq)

/-- An index of three axes with these coordinates. -/
theorem ix3_of {a b c : ℕ} {i : (⟨3, ![a, b, c]⟩ : Shape).Idx} {p : Fin a} {q : Fin b} {r : Fin c}
    (hp : (i 0).val = p.val) (hq : (i 1).val = q.val) (hr : (i 2).val = r.val) : i = ix3 p q r :=
  funext fun e => Fin.ext (by match e with | ⟨0, _⟩ => exact hp | ⟨1, _⟩ => exact hq | ⟨2, _⟩ => exact hr)

/-- An index of four axes with these coordinates. -/
theorem ix4_of {a b c d : ℕ} {i : (⟨4, ![a, b, c, d]⟩ : Shape).Idx} {p : Fin a} {q : Fin b} {r : Fin c} {s : Fin d}
    (hp : (i 0).val = p.val) (hq : (i 1).val = q.val) (hr : (i 2).val = r.val) (hs : (i 3).val = s.val) :
    i = ix4 p q r s :=
  funext fun e => Fin.ext (by
    match e with | ⟨0, _⟩ => exact hp | ⟨1, _⟩ => exact hq | ⟨2, _⟩ => exact hr | ⟨3, _⟩ => exact hs)

/-- An index of five axes with these coordinates. -/
theorem ix5_of {a b c d f : ℕ} {i : (⟨5, ![a, b, c, d, f]⟩ : Shape).Idx} {p : Fin a} {q : Fin b} {r : Fin c} {s : Fin d}
    {t : Fin f} (hp : (i 0).val = p.val) (hq : (i 1).val = q.val) (hr : (i 2).val = r.val) (hs : (i 3).val = s.val)
    (ht : (i 4).val = t.val) : i = ix5 p q r s t :=
  funext fun e => Fin.ext (by
    match e with
    | ⟨0, _⟩ => exact hp | ⟨1, _⟩ => exact hq | ⟨2, _⟩ => exact hr | ⟨3, _⟩ => exact hs | ⟨4, _⟩ => exact ht)

/-- Tables of the arguments, entry by entry. -/
abbrev token (x : S1x2048x768.Idx → EReal) (n : Fin 2048) (d : Fin 768) : EReal := x (ix3 0 n d)
/-- A matrix as a function of row and column. -/
abbrev table {a b : ℕ} (x : (⟨2, ![a, b]⟩ : Shape).Idx → EReal) (r : Fin a) (i : Fin b) : EReal := x (ix2 r i)

/-- The word of zero. -/
theorem ofBits_zero : (FloatOps.ofBits .f32 0x00000000#32 : Ideal .f32) = (0 : EReal) := Ideal.ofBits_zero_f32

variable (x0 : S1x2048x768.Idx → EReal) (x1 : S768x2048.Idx → EReal) (x2 : S2048.Idx → EReal) (x3 x4 : S256.Idx → EReal)
variable (n : Fin 2048) (h : Fin 8)

/-- Head `h`'s query of token `n`. -/
abbrev query : Fin 256 → EReal := Spec.query (token x0 n) (table x1) h

/-- The reference's query, with a zero offset, head by head. -/
theorem query_at (hb : ∀ i, x2 i = 0) (i : Fin 256) :
    val_main_v4 (F := Ideal) x0 x1 x2 (ix4 0 n h i) = query x0 x1 n h i := by
  have e : idx_main_v4 (ix4 0 n h i) = ix3 0 n (⟨256 * h.val + i.val, by omega⟩ : Fin 2048) := by
    refine ix3_of rfl ?_ ?_
    · show (((0 * 2048 + n.val) * 8 + h.val) * 256 + i.val) / 2048 % 2048 = n.val; omega
    · show (((0 * 2048 + n.val) * 8 + h.val) * 256 + i.val) % 2048 = 256 * h.val + i.val; omega
  rw [val_main_v4_apply, e, val_main_v3_apply, val_main_v2_apply, val_main_v1_apply, hb, val_main_v0_apply]
  refine (add_zero _).trans (Finset.sum_congr rfl fun d _ => ?_)
  rw [show lidx_main_v0 (ix3 0 n (⟨256 * h.val + i.val, by omega⟩ : Fin 2048)) d = ix3 0 n d from ix3_of rfl rfl rfl,
    show ridx_main_v0 (ix3 0 n (⟨256 * h.val + i.val, by omega⟩ : Fin 2048)) d
      = ix2 d (⟨256 * h.val + i.val, by omega⟩ : Fin 2048) from ix2_of rfl rfl]
  exact mul_comm _ _

/-- The query's mean. -/
theorem mean_at (hb : ∀ i, x2 i = 0) :
    val_main_v8 (F := Ideal) x0 x1 x2 (ix4 0 n h 0) = Spec.mean (query x0 x1 n h) := by
  rw [val_main_v8_apply, val_main_v6_apply, val_main_v5_apply, val_main_v7_apply, val_main_cst_0_apply, val_main_cst_apply,
    ofBits_zero, zero_add]
  refine congrArg (Ideal.div · _) (Finset.sum_congr rfl fun k _ => ?_)
  rw [show idx_main_v5 (idx_main_v6 (ix4 0 n h 0)) k = ix4 0 n h k from ix4_of rfl rfl rfl rfl]
  exact query_at x0 x1 x2 n h hb k

/-- The mean that the variance recomputes. -/
theorem mean'_at (hb : ∀ i, x2 i = 0) :
    val_main_call0_v3 (F := Ideal) x0 x1 x2 (ix4 0 n h 0) = Spec.mean (query x0 x1 n h) := by
  rw [val_main_call0_v3_apply, val_main_call0_v1_apply, val_main_call0_v0_apply, val_main_call0_v2_apply,
    val_main_call0_cst_0_apply, val_main_call0_cst_apply, ofBits_zero, zero_add]
  refine congrArg (Ideal.div · _) (Finset.sum_congr rfl fun k _ => ?_)
  rw [show idx_main_call0_v0 (idx_main_call0_v1 (ix4 0 n h 0)) k = ix4 0 n h k from ix4_of rfl rfl rfl rfl]
  exact query_at x0 x1 x2 n h hb k

/-- The centred query. -/
theorem centre_at (hb : ∀ i, x2 i = 0) (i : Fin 256) :
    val_main_v11 (F := Ideal) x0 x1 x2 (ix4 0 n h i) = Spec.centre (query x0 x1 n h) i := by
  rw [val_main_v11_apply, val_main_v10_apply,
    show idx_main_v10 (ix4 0 n h i) = ix4 0 n h 0 from ix4_of rfl rfl rfl rfl, mean_at x0 x1 x2 n h hb,
    query_at x0 x1 x2 n h hb]
  rfl

/-- The centred query that the variance is computed from. -/
theorem centre'_at (hb : ∀ i, x2 i = 0) (i : Fin 256) :
    val_main_call0_v5 (F := Ideal) x0 x1 x2 (ix4 0 n h i) = Spec.centre (query x0 x1 n h) i := by
  rw [val_main_call0_v5_apply, val_main_call0_v4_apply,
    show idx_main_call0_v4 (ix4 0 n h i) = ix4 0 n h 0 from ix4_of rfl rfl rfl rfl, mean'_at x0 x1 x2 n h hb,
    query_at x0 x1 x2 n h hb]
  rfl

/-- The number of entries less the zero degrees of freedom: 256. -/
theorem count (i : S_.Idx) : val_main_call0_v8 (F := Ideal) i = Ideal.ofBits .f32 0x43800000#32 := by
  rw [val_main_call0_v8_apply, val_main_call0_cst_1_apply, val_main_call0_v7_apply, val_main_c_apply]
  show Ideal.ofBits .f32 0x43800000#32 - (((0#32 : BitVec 32).toInt : ℝ) : EReal) = _
  simp

/-- Which is positive. -/
theorem count_pos (i : S_.Idx) : val_main_call0_v13 (F := Ideal) i = 1#1 := by
  rw [val_main_call0_v13_apply, count, val_main_call0_cst_3_apply, ofBits_zero, Ideal.cmpf_def, Ideal.cmp,
    Field.bits_256]
  simp

/-- The query's variance. -/
theorem var_at (hb : ∀ i, x2 i = 0) :
    val_main_v9 (F := Ideal) x0 x1 x2 (ix4 0 n h 0) = Spec.var (query x0 x1 n h) := by
  have hc : broadcastInDim S1x2048x8x1 ![] bcast_S_S1x2048x8x1 (val_main_call0_v13 (F := Ideal)) (ix4 0 n h 0) = 1#1 :=
    count_pos _
  show Scalar.select (broadcastInDim S1x2048x8x1 ![] bcast_S_S1x2048x8x1 (val_main_call0_v13 (F := Ideal)) (ix4 0 n h 0))
    (val_main_call0_v12 (F := Ideal) x0 x1 x2 (ix4 0 n h 0)) (val_main_call0_call0_v1 (F := Ideal) (ix4 0 n h 0)) = _
  rw [hc]
  show val_main_call0_v12 (F := Ideal) x0 x1 x2 (ix4 0 n h 0) = _
  rw [val_main_call0_v12_apply, val_main_call0_v10_apply, val_main_call0_v9_apply, val_main_call0_v11_apply, count,
    val_main_call0_cst_2_apply, ofBits_zero, zero_add]
  refine congrArg (Ideal.div · _) (Finset.sum_congr rfl fun k _ => ?_)
  rw [show idx_main_call0_v9 (idx_main_call0_v10 (ix4 0 n h 0)) k = ix4 0 n h k from ix4_of rfl rfl rfl rfl,
    val_main_call0_v6_apply, centre'_at x0 x1 x2 n h hb]
  rfl

/-- The normalised query. -/
theorem norm_at (hb : ∀ i, x2 i = 0) (hg : ∀ i, x3 i = 1) (hz : ∀ i, x4 i = 0) (i : Fin 256) :
    val_main_v22 (F := Ideal) x0 x1 x2 x3 x4 (ix4 0 n h i) = Spec.norm (query x0 x1 n h) i := by
  rw [val_main_v22_apply, val_main_v21_apply, val_main_v20_apply, hz, val_main_v19_apply, val_main_v18_apply,
    val_main_v17_apply, hg, val_main_v16_apply, centre_at x0 x1 x2 n h hb, val_main_v15_apply,
    show idx_main_v15 (ix4 0 n h i) = ix4 0 n h 0 from ix4_of rfl rfl rfl rfl, val_main_v14_apply, val_main_v13_apply,
    var_at x0 x1 x2 n h hb, val_main_v12_apply, val_main_cst_1_apply]
  refine (add_zero _).trans ((mul_one _).trans ?_)
  exact Spec.norm_eq_div _ _

end Cert.Reference
-- ==== Proof.RefScores.lean ====
/-
What the reference computes, second part: each half of a normalised query scored against the unit keys of its table.
-/
module

public import proofs.«01_k».proof.Proof.RefQuery

@[expose] public section

noncomputable section

open Finset

namespace Cert.Reference

open Cert.ReferenceIdeal Cert.ReferenceIdeal.Gen Cert.ReferenceIdeal.Read
open Idealize.ShloMosaic Idealize.ShloMosaic.TcCoe Idealize.ShloMosaic.ValueIdx

variable (x0 : S1x2048x768.Idx → EReal) (x1 : S768x2048.Idx → EReal) (x2 : S2048.Idx → EReal) (x3 x4 : S256.Idx → EReal)
variable (x5 x6 : S128x128.Idx → EReal) (n : Fin 2048) (h : Fin 8)

/-- The two halves of the normalised query. -/
abbrev halfLo : Fin 128 → EReal := Spec.lo (Spec.norm (query x0 x1 n h))
/-- The second half of the normalised query. -/
abbrev halfHi : Fin 128 → EReal := Spec.hi (Spec.norm (query x0 x1 n h))

/-- The reference's first half. -/
theorem lo_at (hb : ∀ i, x2 i = 0) (hg : ∀ i, x3 i = 1) (hz : ∀ i, x4 i = 0) (i : Fin 128) :
    val_main_v23 (F := Ideal) x0 x1 x2 x3 x4 (ix4 0 n h i) = halfLo x0 x1 n h i := by
  rw [val_main_v23_apply, show idx_main_v23 (ix4 0 n h i) = ix4 0 n h (⟨i.val, by omega⟩ : Fin 256) from
    ix4_of rfl rfl rfl rfl, norm_at x0 x1 x2 x3 x4 n h hb hg hz]
  rfl

/-- The reference's second half. -/
theorem hi_at (hb : ∀ i, x2 i = 0) (hg : ∀ i, x3 i = 1) (hz : ∀ i, x4 i = 0) (i : Fin 128) :
    val_main_v24 (F := Ideal) x0 x1 x2 x3 x4 (ix4 0 n h i) = halfHi x0 x1 n h i := by
  rw [val_main_v24_apply, show idx_main_v24 (ix4 0 n h i) = ix4 0 n h (⟨128 + i.val, by omega⟩ : Fin 256) from
    ix4_of rfl rfl rfl rfl, norm_at x0 x1 x2 x3 x4 n h hb hg hz]
  rfl

/-- The first half divided by its length. -/
theorem unitLo_at (hb : ∀ i, x2 i = 0) (hg : ∀ i, x3 i = 1) (hz : ∀ i, x4 i = 0) (i : Fin 128) :
    val_main_v29 (F := Ideal) x0 x1 x2 x3 x4 (ix4 0 n h i) = Spec.unit (halfLo x0 x1 n h) i := by
  rw [val_main_v29_apply, lo_at x0 x1 x2 x3 x4 n h hb hg hz, val_main_v28_apply, val_main_v27_apply, val_main_v26_apply,
    val_main_cst_2_apply, val_main_v25_apply, val_main_call1_v2_apply, val_main_call1_v1_apply, val_main_call1_cst_apply,
    ofBits_zero, zero_add]
  refine congrArg (fun s => Ideal.div _ (max (Ideal.sqrt s) _)) (Finset.sum_congr rfl fun k _ => ?_)
  rw [show idx_main_call1_v1 (idx_main_call1_v2 (idx_main_v28 (ix4 0 n h i))) k = ix4 0 n h k from
    ix4_of rfl rfl rfl rfl, val_main_call1_v0_apply, lo_at x0 x1 x2 x3 x4 n h hb hg hz]
  rfl

/-- The second half divided by its length. -/
theorem unitHi_at (hb : ∀ i, x2 i = 0) (hg : ∀ i, x3 i = 1) (hz : ∀ i, x4 i = 0) (i : Fin 128) :
    val_main_v41 (F := Ideal) x0 x1 x2 x3 x4 (ix4 0 n h i) = Spec.unit (halfHi x0 x1 n h) i := by
  rw [val_main_v41_apply, hi_at x0 x1 x2 x3 x4 n h hb hg hz, val_main_v40_apply, val_main_v39_apply, val_main_v38_apply,
    val_main_cst_4_apply, val_main_v37_apply, val_main_call3_v2_apply, val_main_call3_v1_apply, val_main_call3_cst_apply,
    ofBits_zero, zero_add]
  refine congrArg (fun s => Ideal.div _ (max (Ideal.sqrt s) _)) (Finset.sum_congr rfl fun k _ => ?_)
  rw [show idx_main_call3_v1 (idx_main_call3_v2 (idx_main_v40 (ix4 0 n h i))) k = ix4 0 n h k from
    ix4_of rfl rfl rfl rfl, val_main_call3_v0_apply, hi_at x0 x1 x2 x3 x4 n h hb hg hz]
  rfl

/-- The first table's keys divided by their lengths. -/
theorem keyLo_at (r i : Fin 128) : val_main_v34 (F := Ideal) x5 (ix2 r i) = Spec.unit (table x5 r) i := by
  rw [val_main_v34_apply, val_main_v33_apply, val_main_v32_apply, val_main_v31_apply, val_main_cst_3_apply,
    val_main_v30_apply, val_main_call2_v2_apply, val_main_call2_v1_apply, val_main_call2_cst_apply, ofBits_zero, zero_add]
  refine congrArg (fun s => Ideal.div _ (max (Ideal.sqrt s) _)) (Finset.sum_congr rfl fun k _ => ?_)
  rw [show idx_main_call2_v1 (idx_main_call2_v2 (idx_main_v33 (ix2 r i))) k = ix2 r k from ix2_of rfl rfl,
    val_main_call2_v0_apply]
  rfl

/-- The second table's keys divided by their lengths. -/
theorem keyHi_at (r i : Fin 128) : val_main_v46 (F := Ideal) x6 (ix2 r i) = Spec.unit (table x6 r) i := by
  rw [val_main_v46_apply, val_main_v45_apply, val_main_v44_apply, val_main_v43_apply, val_main_cst_5_apply,
    val_main_v42_apply, val_main_call4_v2_apply, val_main_call4_v1_apply, val_main_call4_cst_apply, ofBits_zero, zero_add]
  refine congrArg (fun s => Ideal.div _ (max (Ideal.sqrt s) _)) (Finset.sum_congr rfl fun k _ => ?_)
  rw [show idx_main_call4_v1 (idx_main_call4_v2 (idx_main_v45 (ix2 r i))) k = ix2 r k from ix2_of rfl rfl,
    val_main_call4_v0_apply]
  rfl

/-- The scores of the first half. -/
theorem scoreLo_at (hb : ∀ i, x2 i = 0) (hg : ∀ i, x3 i = 1) (hz : ∀ i, x4 i = 0) (r : Fin 128) :
    val_main_v36 (F := Ideal) x0 x1 x2 x3 x4 x5 (ix4 0 n h r)
      = Spec.scoresLo (token x0 n) (table x1) (table x5) h r := by
  rw [val_main_v36_apply, Spec.scoresLo, Spec.score]
  refine Finset.sum_congr rfl fun k _ => ?_
  rw [show lidx_main_v36 (ix4 0 n h r) k = ix4 0 n h k from ix4_of rfl rfl rfl rfl,
    unitLo_at x0 x1 x2 x3 x4 n h hb hg hz, val_main_v35_apply,
    show idx_main_v35 (ridx_main_v36 (ix4 0 n h r) k) = ix2 r k from ix2_of rfl rfl, keyLo_at]
  exact mul_comm _ _

/-- The scores of the second half. -/
theorem scoreHi_at (hb : ∀ i, x2 i = 0) (hg : ∀ i, x3 i = 1) (hz : ∀ i, x4 i = 0) (r : Fin 128) :
    val_main_v48 (F := Ideal) x0 x1 x2 x3 x4 x6 (ix4 0 n h r)
      = Spec.scoresHi (token x0 n) (table x1) (table x6) h r := by
  rw [val_main_v48_apply, Spec.scoresHi, Spec.score]
  refine Finset.sum_congr rfl fun k _ => ?_
  rw [show lidx_main_v48 (ix4 0 n h r) k = ix4 0 n h k from ix4_of rfl rfl rfl rfl,
    unitHi_at x0 x1 x2 x3 x4 n h hb hg hz, val_main_v47_apply,
    show idx_main_v47 (ridx_main_v48 (ix4 0 n h r) k) = ix2 r k from ix2_of rfl rfl, keyHi_at]
  exact mul_comm _ _

end Cert.Reference
-- ==== Proof.RefRank.lean ====
/-
What a top-k of the last of four axes holds: at slot `k` the value of the entry of rank `k`, and that entry's position.
-/
module

public import proofs.«01_k».proof.Proof.RefQuery

@[expose] public section

noncomputable section

open Finset

namespace Cert.Reference

open Idealize.ShloMosaic Idealize.ShloMosaic.ValueIdx

variable {N : ℕ} (x : (⟨4, ![1, 2048, 8, N]⟩ : Shape).Idx → EReal) (n : Fin 2048) (h : Fin 8)

/-- The entries of one row of the last axis. -/
abbrev rowOf (r : Fin N) : EReal := x (ix4 0 n h r)

/-- The entries along the last axis at an index of its row. -/
theorem along_last (j : (⟨4, ![1, 2048, 8, N]⟩ : Shape).Idx) (r : Fin N) (h0 : (j 1).val = n.val) (h1 : (j 2).val = h.val) :
    Shape.Idx.along j (3 : Fin 4) r = ix4 0 n h r := by
  have e : ∀ a : Fin 4, a ≠ 3 → Shape.Idx.along j (3 : Fin 4) r a = j a := fun a ha => Function.update_of_ne ha _ _
  refine ix4_of ?_ ?_ ?_ ?_
  · rw [e 0 (by decide)]
    have : (j 0).val < 1 := (j 0).isLt
    show (j 0).val = 0; omega
  · rw [e 1 (by decide)]; exact h0
  · rw [e 2 (by decide)]; exact h1
  · exact congrArg Fin.val (Function.update_self (3 : Fin 4) _ _)

/-- The comparison of two values of a row is the order of values. -/
theorem gt_eq (a b : EReal) : ((FloatOps.cmpfTotal (F := Ideal) (φ := .f32) .gt a b) == 1#1) = decide (b < a) := by
  simp only [Ideal.cmpfTotal_def, CmpDirection.ordered, Ideal.cmp]
  by_cases e : b < a <;> simp [e]

/-- The position that the sort of a row puts at place `k`. -/
theorem place (j : (⟨4, ![1, 2048, 8, N]⟩ : Shape).Idx) (h0 : (j 1).val = n.val) (h1 : (j 2).val = h.val) (k : Fin N) :
    sortedFrom (fun a b : Fin N => FloatOps.cmpfTotal (F := Ideal) (φ := .f32) .gt
        (x (Shape.Idx.along j (3 : Fin 4) a)) (x (Shape.Idx.along j (3 : Fin 4) b)) == 1#1) k
      = Rank.nth (rowOf x n h) k.val k.isLt := by
  rw [← Rank.sortedFrom_eq_nth]
  refine congrArg (fun f => sortedFrom f k) (funext fun a => funext fun b => ?_)
  rw [along_last n h j a h0 h1, along_last n h j b h0 h1]
  exact gt_eq _ _

variable (hN : 8 ≤ N) (hs : (⟨4, ![1, 2048, 8, N]⟩ : Shape).Slices (fun _ => 0) ⟨4, ![1, 2048, 8, 8]⟩) (k : Fin 8)

/-- The value at slot `k`. -/
theorem topK_value :
    (Host.topK (⟨4, ![1, 2048, 8, 8]⟩ : Shape) 3 (FloatOps.cmpfTotal (F := Ideal) (φ := .f32) .gt) x hs).1 (ix4 0 n h k)
      = rowOf x n h (Rank.nth (rowOf x n h) k.val (by omega)) := by
  unfold Host.topK Host.sort2
  simp only [dif_pos (show (3 : ℕ) < 4 by decide)]
  refine (extractStridedSlice_apply _ _ hs (ix4 0 n h k) (ix4 0 n h (⟨k.val, by omega⟩ : Fin N)) (fun a => match a with
    | ⟨0, _⟩ => rfl | ⟨1, _⟩ => (Nat.zero_add _).symm | ⟨2, _⟩ => (Nat.zero_add _).symm | ⟨3, _⟩ => (Nat.zero_add _).symm)).trans ?_
  refine congrArg x ((along_last n h _ _ rfl rfl).trans (congrArg (ix4 0 n h) ?_))
  exact place x n h _ rfl rfl (⟨k.val, by omega⟩ : Fin N)

/-- The position at slot `k`. -/
theorem topK_index :
    (Host.topK (⟨4, ![1, 2048, 8, 8]⟩ : Shape) 3 (FloatOps.cmpfTotal (F := Ideal) (φ := .f32) .gt) x hs).2 (ix4 0 n h k)
      = BitVec.ofNat 32 (Rank.nth (rowOf x n h) k.val (by omega)).val := by
  unfold Host.topK Host.sort2
  simp only [dif_pos (show (3 : ℕ) < 4 by decide)]
  refine (extractStridedSlice_apply _ _ hs (ix4 0 n h k) (ix4 0 n h (⟨k.val, by omega⟩ : Fin N)) (fun a => match a with
    | ⟨0, _⟩ => rfl | ⟨1, _⟩ => (Nat.zero_add _).symm | ⟨2, _⟩ => (Nat.zero_add _).symm | ⟨3, _⟩ => (Nat.zero_add _).symm)).trans ?_
  refine congrArg (BitVec.ofNat 32) ?_
  refine (congrArg Fin.val (Function.update_self (3 : Fin 4) _ (ix4 0 n h (⟨k.val, by omega⟩ : Fin N)))).trans
    (congrArg Fin.val ?_)
  exact place x n h _ rfl rfl (⟨k.val, by omega⟩ : Fin N)

end Cert.Reference
-- ==== Proof.RefTake.lean ====
/-
Indexed reads of the reference: a number below a bound is neither wrapped nor out of range, so a take by it reads the
entry that it names. Two reads: along the last of four axes, row by row; and of whole rows of a table.
-/
module

public import proofs.«01_k».proof.Proof.RefQuery

@[expose] public section

noncomputable section

open Finset

namespace Cert.Reference

open Cert.ReferenceIdeal Cert.ReferenceIdeal.Gen Cert.ReferenceIdeal.Read
open Idealize.ShloMosaic Idealize.ShloMosaic.TcCoe Idealize.ShloMosaic.ValueIdx

/-- A small number is not negative, so it is not wrapped around. -/
theorem not_wrapped {p : ℕ} (h : p < 2 ^ 31) (c : BitVec 32) :
    Scalar.select (IntOp.cmpi .slt (BitVec.ofNat 32 p) 0#32) c (BitVec.ofNat 32 p) = BitVec.ofNat 32 p := by
  have : (BitVec.ofNat 32 p).slt 0#32 = false := by
    rw [BitVec.slt, Field.toInt_ofNat h]
    simp
  simp [IntOp.cmpi, this, Scalar.select]

/-- A number up to `m` is in range. -/
theorem in_range {p m : ℕ} (h : p ≤ m) (hm : m < 2 ^ 31) :
    IntOp.andi (IntOp.cmpi .sge (BitVec.ofNat 32 p) 0#32) (IntOp.cmpi .sle (BitVec.ofNat 32 p) (BitVec.ofNat 32 m)) = 1#1 := by
  have h1 : (0#32 : BitVec 32).sle (BitVec.ofNat 32 p) = true := by
    rw [BitVec.sle, Field.toInt_ofNat (n := p) (by omega)]
    simp
  have h2 : (BitVec.ofNat 32 p).sle (BitVec.ofNat 32 m) = true := by
    rw [BitVec.sle, Field.toInt_ofNat (by omega), Field.toInt_ofNat hm]
    simpa using h
  simp [IntOp.cmpi, h1, h2, IntOp.andi]

/-- The conjunction over an axis of bits that are all one is one. -/
theorem all_ones {s t u : Shape} {axes : List (Fin s.rank)} (y : s.Idx → BitVec 1) (init : u.Idx → BitVec 1)
    (r : s.ReducesTo axes t) (hu : 0 < u.numel) (j : t.Idx) (hi : ∀ i, init i = 1#1) (hy : ∀ i, y i = 1#1) :
    Host.reduce IntOp.andi y init r hu j = 1#1 := by
  rw [Host.reduce_eq_foldl, hi]
  induction (List.filter (fun i => decide (r.drop i = j)) ((List.finRange s.numel).map s.rowMajor.symm)) with
  | nil => rfl
  | cons a l ih => rw [List.foldl_cons, hy]; exact ih

/-- The read along the last axis: row by row the entry that the index names, clamped. -/
theorem gather_last (y : S1x2048x8x64.Idx → BitVec 32) (idx : IVec S2048x8x8x1 32) (n : Fin 2048) (h k : Fin 8) (p : Fin 64)
    (hp : (idx (ix4 n h k 0)).toInt.toNat = p.val) :
    Host.gather gather_S1x2048x8x64_S2048x8x8x1_S1x2048x8x8_0_3_12_01_3_3_1111 y idx (ix4 0 n h k) = y (ix4 0 n h p) := by
  set D := gather_S1x2048x8x64_S2048x8x8x1_S1x2048x8x8_0_3_12_01_3_3_1111 with hD
  unfold Host.gather
  refine congrArg y (ix4_of ?_ ?_ ?_ ?_)
  · have := (D.operandIdx (ix4 0 n h k) idx 0).isLt
    have e : (D.operandIdx (ix4 0 n h k) idx 0).val < 1 := this
    show (D.operandIdx (ix4 0 n h k) idx 0).val = 0
    omega
  · show D.start (ix4 0 n h k) idx 1 + D.batchCoord (ix4 0 n h k) 1 + D.offCoord (ix4 0 n h k) 1 = n.val
    have hm : (1 : Fin 4) ∈ D.operandBatchingDims := by decide
    rw [D.start_batching _ _ _ hm, D.offCoord_eq_zero _ _ fun h => ((D.mem_sKept _).mp h).2 hm]
    simp only [Nat.zero_add, Nat.add_zero]
    unfold GatherDims.batchCoord
    rw [dif_pos hm]
    rfl
  · show D.start (ix4 0 n h k) idx 2 + D.batchCoord (ix4 0 n h k) 2 + D.offCoord (ix4 0 n h k) 2 = h.val
    have hm : (2 : Fin 4) ∈ D.operandBatchingDims := by decide
    rw [D.start_batching _ _ _ hm, D.offCoord_eq_zero _ _ fun h => ((D.mem_sKept _).mp h).2 hm]
    simp only [Nat.zero_add, Nat.add_zero]
    unfold GatherDims.batchCoord
    rw [dif_pos hm]
    rfl
  · show D.start (ix4 0 n h k) idx 3 + D.batchCoord (ix4 0 n h k) 3 + D.offCoord (ix4 0 n h k) 3 = p.val
    have hm : (3 : Fin 4) ∈ D.collapsedSliceDims := by decide
    have hs : (3 : Fin 4) ∈ D.startIndexMap := by decide
    rw [D.batchCoord_eq_zero _ _ (by decide), D.offCoord_eq_zero _ _ fun h => ((D.mem_sKept _).mp h).1 hm]
    simp only [Nat.add_zero]
    unfold GatherDims.start
    rw [dif_pos hs]
    have hsi : D.siIdx (ix4 0 n h k) ⟨D.startIndexMap.idxOf (3 : Fin 4), List.idxOf_lt_length_iff.2 hs⟩
        = (ix4 n h k 0 : S2048x8x8x1.Idx) := ix4_of rfl rfl rfl rfl
    rw [hsi, hp]
    show min p.val (64 - 1) = p.val
    omega

/-- The read of whole rows of a table: the row that the index names, clamped. -/
theorem gather_rows (y : S16384x768.Idx → EReal) (idx : IVec S1x2048x8x8x1 32) (n : Fin 2048) (h k : Fin 8) (d : Fin 768)
    (p : Fin 16384) (hp : (idx (ix5 0 n h k 0)).toInt.toNat = p.val) :
    Host.gather gather_S16384x768_S1x2048x8x8x1_S1x2048x8x8x768_4_0_n_n_0_4_1768 y idx (ix5 0 n h k d) = y (ix2 p d) := by
  set D := gather_S16384x768_S1x2048x8x8x1_S1x2048x8x8x768_4_0_n_n_0_4_1768 with hD
  unfold Host.gather
  refine congrArg y (ix2_of ?_ ?_)
  · show D.start (ix5 0 n h k d) idx 0 + D.batchCoord (ix5 0 n h k d) 0 + D.offCoord (ix5 0 n h k d) 0 = p.val
    have hm : (0 : Fin 2) ∈ D.collapsedSliceDims := by decide
    have hs : (0 : Fin 2) ∈ D.startIndexMap := by decide
    rw [D.batchCoord_eq_zero _ _ (by decide), D.offCoord_eq_zero _ _ fun h => ((D.mem_sKept _).mp h).1 hm]
    simp only [Nat.add_zero]
    unfold GatherDims.start
    rw [dif_pos hs]
    have hsi : D.siIdx (ix5 0 n h k d) ⟨D.startIndexMap.idxOf (0 : Fin 2), List.idxOf_lt_length_iff.2 hs⟩
        = (ix5 0 n h k 0 : S1x2048x8x8x1.Idx) := ix5_of rfl rfl rfl rfl rfl
    rw [hsi, hp]
    show min p.val (16384 - 1) = p.val
    omega
  · show D.start (ix5 0 n h k d) idx 1 + D.batchCoord (ix5 0 n h k d) 1 + D.offCoord (ix5 0 n h k d) 1 = d.val
    have hk : (1 : Fin 2) ∈ D.sKept := (D.mem_sKept _).mpr ⟨by decide, by decide⟩
    rw [D.batchCoord_eq_zero _ _ (by decide)]
    unfold GatherDims.start GatherDims.offCoord
    rw [dif_neg (show ¬ (1 : Fin 2) ∈ D.startIndexMap by decide), dif_pos hk]
    simp only [Nat.zero_add]
    rfl

end Cert.Reference
-- ==== Proof.RefChoice.lean ====
/-
What the reference computes, third part: the eight best scores of each half, the sums of one of each, the eight best
sums, and the experts that they name.
-/
module

public import proofs.«01_k».proof.Proof.RefScores
public import proofs.«01_k».proof.Proof.RefRank
public import proofs.«01_k».proof.Proof.RefTake

@[expose] public section

noncomputable section

open Finset

namespace Cert.Reference

open Cert.ReferenceIdeal Cert.ReferenceIdeal.Gen Cert.ReferenceIdeal.Read
open Idealize.ShloMosaic Idealize.ShloMosaic.TcCoe Idealize.ShloMosaic.ValueIdx

/-- The query's offset is zero, the normalisation's scale one and its offset zero. -/
structure Plain (x2 : S2048.Idx → EReal) (x3 x4 : S256.Idx → EReal) : Prop where
  offset : ∀ i, x2 i = 0
  scale : ∀ i, x3 i = 1
  shift : ∀ i, x4 i = 0

variable (x0 : S1x2048x768.Idx → EReal) (x1 : S768x2048.Idx → EReal) (x2 : S2048.Idx → EReal) (x3 x4 : S256.Idx → EReal)
variable (x5 x6 : S128x128.Idx → EReal) (hp : Plain x2 x3 x4) (n : Fin 2048) (h : Fin 8)

/-- The scores of token `n`'s head `h` against the two tables. -/
abbrev s0 : Fin 128 → EReal := Spec.scoresLo (token x0 n) (table x1) (table x5) h
/-- The scores of its second half. -/
abbrev s1 : Fin 128 → EReal := Spec.scoresHi (token x0 n) (table x1) (table x6) h

include hp

/-- The row of the first half's scores. -/
theorem rowLo : rowOf (val_main_v36 (F := Ideal) x0 x1 x2 x3 x4 x5) n h = s0 x0 x1 x5 n h :=
  funext fun r => scoreLo_at x0 x1 x2 x3 x4 x5 n h hp.offset hp.scale hp.shift r

/-- The row of the second half's scores. -/
theorem rowHi : rowOf (val_main_v48 (F := Ideal) x0 x1 x2 x3 x4 x6) n h = s1 x0 x1 x6 n h :=
  funext fun r => scoreHi_at x0 x1 x2 x3 x4 x6 n h hp.offset hp.scale hp.shift r

/-- The best eight of the first half's scores. -/
theorem valueLo (a : Fin 8) : val_main_values (F := Ideal) x0 x1 x2 x3 x4 x5 (ix4 0 n h a)
    = s0 x0 x1 x5 n h (Spec.best (s0 x0 x1 x5 n h) a) := by
  unfold val_main_values
  refine (topK_value (N := 128) _ n h (by decide) _ a).trans ?_
  rw [rowLo x0 x1 x2 x3 x4 x5 hp]
  rfl

/-- Their positions. -/
theorem indexLo (a : Fin 8) : val_main_indices (F := Ideal) x0 x1 x2 x3 x4 x5 (ix4 0 n h a)
    = BitVec.ofNat 32 (Spec.best (s0 x0 x1 x5 n h) a).val := by
  unfold val_main_indices
  refine (topK_index (N := 128) _ n h (by decide) _ a).trans ?_
  rw [rowLo x0 x1 x2 x3 x4 x5 hp]
  rfl

/-- The best eight of the second half's scores. -/
theorem valueHi (b : Fin 8) : val_main_values_6 (F := Ideal) x0 x1 x2 x3 x4 x6 (ix4 0 n h b)
    = s1 x0 x1 x6 n h (Spec.best (s1 x0 x1 x6 n h) b) := by
  unfold val_main_values_6
  refine (topK_value (N := 128) _ n h (by decide) _ b).trans ?_
  rw [rowHi x0 x1 x2 x3 x4 x6 hp]
  rfl

/-- Their positions. -/
theorem indexHi (b : Fin 8) : val_main_indices_7 (F := Ideal) x0 x1 x2 x3 x4 x6 (ix4 0 n h b)
    = BitVec.ofNat 32 (Spec.best (s1 x0 x1 x6 n h) b).val := by
  unfold val_main_indices_7
  refine (topK_index (N := 128) _ n h (by decide) _ b).trans ?_
  rw [rowHi x0 x1 x2 x3 x4 x6 hp]
  rfl

/-- The 64 sums of a score of each half. -/
theorem sums_at (p : Fin 64) : val_main_v61 (F := Ideal) x0 x1 x2 x3 x4 x5 x6 (ix4 0 n h p)
    = Spec.sums (s0 x0 x1 x5 n h) (s1 x0 x1 x6 n h) p := by
  have e : idx_main_v61 (ix4 0 n h p) = ix5 0 n h (Spec.row p) (Spec.col p) := by
    refine ix5_of rfl ?_ ?_ ?_ ?_
    · show (((0 * 2048 + n.val) * 8 + h.val) * 64 + p.val) / 512 % 2048 = n.val; omega
    · show (((0 * 2048 + n.val) * 8 + h.val) * 64 + p.val) / 64 % 8 = h.val; omega
    · show (((0 * 2048 + n.val) * 8 + h.val) * 64 + p.val) / 8 % 8 = p.val / 8; omega
    · show (((0 * 2048 + n.val) * 8 + h.val) * 64 + p.val) % 8 = p.val % 8; omega
  rw [val_main_v61_apply, e, val_main_v53_apply, val_main_v51_apply, val_main_v49_apply, val_main_v52_apply,
    val_main_v50_apply,
    show idx_main_v49 (idx_main_v51 (ix5 0 n h (Spec.row p) (Spec.col p))) = ix4 0 n h (Spec.row p) from
      ix4_of rfl rfl rfl rfl,
    show idx_main_v50 (idx_main_v52 (ix5 0 n h (Spec.row p) (Spec.col p))) = ix4 0 n h (Spec.col p) from
      ix4_of rfl rfl rfl rfl,
    valueLo x0 x1 x2 x3 x4 x5 hp, valueHi x0 x1 x2 x3 x4 x6 hp]
  rfl

/-- The 64 experts that they name. -/
theorem named_at (p : Fin 64) : val_main_v62 (F := Ideal) x0 x1 x2 x3 x4 x5 x6 (ix4 0 n h p)
    = BitVec.ofNat 32 (Spec.named (s0 x0 x1 x5 n h) (s1 x0 x1 x6 n h) p).val := by
  have e : idx_main_v62 (ix4 0 n h p) = ix5 0 n h (Spec.row p) (Spec.col p) := by
    refine ix5_of rfl ?_ ?_ ?_ ?_
    · show (((0 * 2048 + n.val) * 8 + h.val) * 64 + p.val) / 512 % 2048 = n.val; omega
    · show (((0 * 2048 + n.val) * 8 + h.val) * 64 + p.val) / 64 % 8 = h.val; omega
    · show (((0 * 2048 + n.val) * 8 + h.val) * 64 + p.val) / 8 % 8 = p.val / 8; omega
    · show (((0 * 2048 + n.val) * 8 + h.val) * 64 + p.val) % 8 = p.val % 8; omega
  rw [val_main_v62_apply, e, val_main_v60_apply, val_main_v58_apply, val_main_v54_apply, val_main_v59_apply,
    val_main_v57_apply, val_main_v55_apply, val_main_v56_apply, val_main_c_8_apply,
    show idx_main_v54 (idx_main_v58 (ix5 0 n h (Spec.row p) (Spec.col p))) = ix4 0 n h (Spec.row p) from
      ix4_of rfl rfl rfl rfl,
    show idx_main_v55 (idx_main_v59 (ix5 0 n h (Spec.row p) (Spec.col p))) = ix4 0 n h (Spec.col p) from
      ix4_of rfl rfl rfl rfl,
    indexLo x0 x1 x2 x3 x4 x5 hp, indexHi x0 x1 x2 x3 x4 x6 hp]
  show BitVec.ofNat 32 _ + BitVec.ofNat 32 _ * 1#32 = _
  rw [BitVec.mul_one, ← BitVec.ofNat_add]
  rfl

/-- The row of the sums. -/
theorem rowSums : rowOf (val_main_v61 (F := Ideal) x0 x1 x2 x3 x4 x5 x6) n h
    = Spec.sums (s0 x0 x1 x5 n h) (s1 x0 x1 x6 n h) := funext fun p => sums_at x0 x1 x2 x3 x4 x5 x6 hp n h p

/-- The eight best sums. -/
theorem top_at (k : Fin 8) : val_main_values_9 (F := Ideal) x0 x1 x2 x3 x4 x5 x6 (ix4 0 n h k)
    = Spec.top (s0 x0 x1 x5 n h) (s1 x0 x1 x6 n h) k := by
  unfold val_main_values_9
  refine (topK_value (N := 64) _ n h (by decide) _ k).trans ?_
  rw [rowSums x0 x1 x2 x3 x4 x5 x6 hp]
  rfl

/-- Their numbers. -/
theorem pick_at (k : Fin 8) : val_main_indices_10 (F := Ideal) x0 x1 x2 x3 x4 x5 x6 (ix4 0 n h k)
    = BitVec.ofNat 32 (Spec.pick (s0 x0 x1 x5 n h) (s1 x0 x1 x6 n h) k).val := by
  unfold val_main_indices_10
  refine (topK_index (N := 64) _ n h (by decide) _ k).trans ?_
  rw [rowSums x0 x1 x2 x3 x4 x5 x6 hp]
  rfl

/-- The number that the indexed read along the sums is given. -/
theorem read_at (k : Fin 8) (z : Fin 1) : val_main_call5_v5 (F := Ideal) x0 x1 x2 x3 x4 x5 x6 (ix4 n h k z)
    = BitVec.ofNat 32 (Spec.pick (s0 x0 x1 x5 n h) (s1 x0 x1 x6 n h) k).val := by
  have e : idx_main_call5_v5 (ix4 n h k z) = ix4 0 n h k := by
    refine ix4_of rfl ?_ ?_ ?_
    · show (((n.val * 8 + h.val) * 8 + k.val) * 1 + z.val) / 64 % 2048 = n.val; omega
    · show (((n.val * 8 + h.val) * 8 + k.val) * 1 + z.val) / 8 % 8 = h.val; omega
    · show (((n.val * 8 + h.val) * 8 + k.val) * 1 + z.val) % 8 = k.val; omega
  rw [val_main_call5_v5_apply, e, val_main_call5_v4_apply, val_main_call5_v1_apply, val_main_call5_v0_apply,
    val_main_call5_c_apply, pick_at x0 x1 x2 x3 x4 x5 x6 hp]
  exact not_wrapped (by omega) _

/-- The test that it is in range succeeds. -/
theorem read_tested (k : Fin 8) (z : Fin 1) :
    val_main_call5_v11 (F := Ideal) x0 x1 x2 x3 x4 x5 x6 (ix4 n h k z) = 1#1 := by
  rw [val_main_call5_v11_apply, val_main_call5_v7_apply, val_main_call5_v10_apply, val_main_call5_v6_apply,
    val_main_call5_c_2_apply, val_main_call5_v9_apply, val_main_call5_v8_apply, val_main_call5_c_1_apply,
    read_at x0 x1 x2 x3 x4 x5 x6 hp]
  exact in_range (by omega) (by decide)

/-- It is in range at every slot. -/
theorem read_in_range (i : S2048x8x8.Idx) : val_main_call5_v12 (F := Ideal) x0 x1 x2 x3 x4 x5 x6 i = 1#1 := by
  unfold val_main_call5_v12
  refine all_ones _ _ _ _ _ (fun _ => rfl) fun j => ?_
  exact (congrArg (val_main_call5_v11 (F := Ideal) x0 x1 x2 x3 x4 x5 x6) (eq_ix4 j)).trans
    (read_tested x0 x1 x2 x3 x4 x5 x6 hp (j 0) (j 1) (j 2) (j 3))

/-- The expert of each slot. -/
theorem expert_at (k : Fin 8) : val_main_v63 (F := Ideal) x0 x1 x2 x3 x4 x5 x6 (ix4 0 n h k)
    = BitVec.ofNat 32 (Spec.expert (s0 x0 x1 x5 n h) (s1 x0 x1 x6 n h) k).val := by
  rw [val_main_v63_apply, val_main_call5_v14_apply, read_in_range x0 x1 x2 x3 x4 x5 x6 hp]
  refine (?_ : _ = val_main_call5_v13 (F := Ideal) x0 x1 x2 x3 x4 x5 x6 (ix4 0 n h k)).trans ?_
  · rfl
  · unfold val_main_call5_v13
    rw [gather_last _ _ n h k (Spec.pick (s0 x0 x1 x5 n h) (s1 x0 x1 x6 n h) k) (by
      rw [read_at x0 x1 x2 x3 x4 x5 x6 hp, Field.toInt_ofNat (by omega)]; rfl), named_at x0 x1 x2 x3 x4 x5 x6 hp]
    rfl

end Cert.Reference
-- ==== Proof.RefLayer.lean ====
/-
What the reference computes, last part: the weights of a token's eight slots of each head, the rows of the experts that
they name, the activation, and the sum over heads and slots. Together with the parts before: the layer.
-/
module

public import proofs.«01_k».proof.Proof.RefChoice
public import proofs.«01_k».proof.Proof.Layer
public import Idealize.ShloMosaic.Lib.TwoAxisContraction

@[expose] public section

noncomputable section

open Finset

namespace Cert.Reference

open Cert.ReferenceIdeal Cert.ReferenceIdeal.Gen Cert.ReferenceIdeal.Read
open Idealize.ShloMosaic Idealize.ShloMosaic.TcCoe Idealize.ShloMosaic.ValueIdx

/-- The fold of the maximum from `⊥` over eight numbers of which the first is the largest. -/
theorem fold_max_first (f : Fin 8 → EReal) (hf : ∀ k, f k ≤ f 0) : (Finset.univ : Finset (Fin 8)).fold max ⊥ f = f 0 :=
  le_antisymm ((Finset.fold_max_le _).mpr ⟨bot_le, fun k _ => hf k⟩)
    ((Finset.le_fold_max _).mpr (Or.inr ⟨0, Finset.mem_univ _, le_rfl⟩))

/-- The activation by the complementary error function of the negative is that by the error function. -/
theorem act_erfc (u : EReal) : Ideal.ofBits .f32 0x3F000000#32 * u * Ideal.erfc (-u * Ideal.ofBits .f32 0x3F3504F3#32)
    = Spec.act u := by
  rw [EReal.neg_mul, Ideal.erfc_neg, Spec.act]

/-- A reduction by the maximum along the last axis, from `⊥`. -/
theorem max_last (y : S1x2048x8x8.Idx → EReal) (init : S_.Idx → EReal) (hi : ∀ i, init i = ⊥) (n : Fin 2048) (h : Fin 8) :
    Host.reduce (FloatOps.maximumf : Ideal .f32 → Ideal .f32 → Ideal .f32) y init reducesTo_S1x2048x8x8_S1x2048x8_d3 h_S_
      (ix3 0 n h) = (Finset.univ : Finset (Fin 8)).fold max ⊥ fun k => y (ix4 0 n h k) := by
  have hr : S1x2048x8x8.Reduces [3] S1x2048x8 := by decide
  refine (Host.reduce_eq_fold_single (max : EReal → EReal → EReal) y init reducesTo_S1x2048x8x8_S1x2048x8_d3 hr h_S_
    (ix3 0 n h)).trans ?_
  rw [hi]
  refine congrArg (Finset.fold max ⊥ · (Finset.univ : Finset (Fin 8))) (funext fun k => ?_)
  exact congrArg y (ix4_of rfl rfl rfl rfl)

/-- The product over two axes: the sum over both. -/
theorem sum_slots (w : FVec Ideal S1x2048x8x8 .f32) (y : FVec Ideal S1x2048x8x8x768 .f32) (n : Fin 2048) (c : Fin 768) :
    Host.dotGeneral (F := Ideal) dot_S1x2048x8x8_S1x2048x8x8x768_S1x2048x768_23_23_n_4_01_01 none w y (ix3 0 n c)
      = ∑ h : Fin 8, ∑ k : Fin 8, w (ix4 0 n h k) * y (ix5 0 n h k c) := by
  set D := dot_S1x2048x8x8_S1x2048x8x8x768_S1x2048x768_23_23_n_4_01_01
  simp only [Host.dotGeneral]
  refine (Ideal.dotGeneral_apply _ _ _ _ _ _).trans ?_
  rw [sum_contr2 D 8 8 rfl rfl rfl]
  refine Finset.sum_congr rfl fun h _ => Finset.sum_congr rfl fun k _ => ?_
  have h0 := contrEquiv2_symm_val0 D 8 8 rfl rfl rfl (h, k)
  have h1 := contrEquiv2_symm_val1 D 8 8 rfl rfl rfl (h, k)
  set q := (contrEquiv2 D 8 8 rfl rfl rfl).symm (h, k)
  have el : D.lhsIdx (ix3 0 n c) q = ix4 0 n h k := by
    refine ix4_of ?_ ?_ ?_ ?_
    · unfold DotDims.lhsIdx; rw [dif_pos (by decide)]; rfl
    · unfold DotDims.lhsIdx; rw [dif_pos (by decide)]; rfl
    · unfold DotDims.lhsIdx; rw [dif_neg (by decide), dif_neg (by decide)]; exact h0
    · unfold DotDims.lhsIdx; rw [dif_neg (by decide), dif_neg (by decide)]; exact h1
  have er : D.rhsIdx (ix3 0 n c) q = ix5 0 n h k c := by
    refine ix5_of ?_ ?_ ?_ ?_ ?_
    · unfold DotDims.rhsIdx; rw [dif_pos (by decide)]; rfl
    · unfold DotDims.rhsIdx; rw [dif_pos (by decide)]; rfl
    · unfold DotDims.rhsIdx; rw [dif_neg (by decide), dif_neg (by decide)]; exact h0
    · unfold DotDims.rhsIdx; rw [dif_neg (by decide), dif_neg (by decide)]; exact h1
    · unfold DotDims.rhsIdx; rw [dif_neg (by decide), dif_pos (by decide)]; rfl
  rw [el, er]

variable (x0 : S1x2048x768.Idx → EReal) (x1 : S768x2048.Idx → EReal) (x2 : S2048.Idx → EReal) (x3 x4 : S256.Idx → EReal)
variable (x5 x6 : S128x128.Idx → EReal) (hp : Plain x2 x3 x4) (n : Fin 2048) (h : Fin 8)

/-- The eight scores of token `n`'s head `h`, and their experts. -/
abbrev tops : Fin 8 → EReal := Spec.top (s0 x0 x1 x5 n h) (s1 x0 x1 x6 n h)
/-- The eight experts. -/
abbrev experts : Fin 8 → Fin 256 := Spec.expert (s0 x0 x1 x5 n h) (s1 x0 x1 x6 n h)

/-- Every one of the eight scores is real. -/
theorem tops_real : Spec.Real' (tops x0 x1 x5 x6 n h) := Spec.top_real (Spec.score_real _ _) (Spec.score_real _ _)

include hp

/-- The largest of the eight scores, found by the reference, is the first. -/
theorem largest_at : val_main_v66 (F := Ideal) x0 x1 x2 x3 x4 x5 x6 (ix3 0 n h) = tops x0 x1 x5 x6 n h 0 := by
  have e : val_main_v64 (F := Ideal) x0 x1 x2 x3 x4 x5 x6 (ix3 0 n h) = tops x0 x1 x5 x6 n h 0 := by
    unfold val_main_v64
    refine (max_last _ _ (fun i => Field.bits_bot) n h).trans ?_
    simp only [top_at x0 x1 x2 x3 x4 x5 x6 hp]
    exact fold_max_first _ fun k => Spec.top_le k
  rw [val_main_v66_apply, e, val_main_v65_apply, val_main_cst_12_apply]
  refine (congrArg (max · (tops x0 x1 x5 x6 n h 0)) Field.bits_bot).trans ?_
  exact max_eq_right bot_le

/-- The exponentials. -/
theorem exp_at (k : Fin 8) : val_main_v70 (F := Ideal) x0 x1 x2 x3 x4 x5 x6 (ix4 0 n h k)
    = Ideal.exp (tops x0 x1 x5 x6 n h k - tops x0 x1 x5 x6 n h 0) := by
  rw [val_main_v70_apply, val_main_v69_apply, top_at x0 x1 x2 x3 x4 x5 x6 hp, val_main_v68_apply, val_main_v67_apply,
    show idx_main_v67 (idx_main_v68 (ix4 0 n h k)) = ix3 0 n h from ix3_of rfl rfl rfl,
    largest_at x0 x1 x2 x3 x4 x5 x6 hp]
  rfl

/-- The weights. -/
theorem gate_at (k : Fin 8) : val_main_v74 (F := Ideal) x0 x1 x2 x3 x4 x5 x6 (ix4 0 n h k)
    = Spec.gate (tops x0 x1 x5 x6 n h) k := by
  rw [val_main_v74_apply, exp_at x0 x1 x2 x3 x4 x5 x6 hp, val_main_v73_apply, val_main_v72_apply,
    show idx_main_v72 (idx_main_v73 (ix4 0 n h k)) = ix3 0 n h from ix3_of rfl rfl rfl, val_main_v71_apply,
    val_main_cst_13_apply, ofBits_zero, zero_add, Spec.gate_eq_div (tops_real x0 x1 x5 x6 n h)]
  refine congrArg (Ideal.div _) (Finset.sum_congr rfl fun j _ => ?_)
  rw [show idx_main_v71 (ix3 0 n h) j = ix4 0 n h j from ix4_of rfl rfl rfl rfl, exp_at x0 x1 x2 x3 x4 x5 x6 hp]

/-- The number that an indexed read of an expert table is given. -/
theorem expert_read_at (k : Fin 8) (z : Fin 1) : val_main_call6_v5 (F := Ideal) x0 x1 x2 x3 x4 x5 x6 (ix5 0 n h k z)
    = BitVec.ofNat 32 (experts x0 x1 x5 x6 n h k).val := by
  rw [val_main_call6_v5_apply, show idx_main_call6_v5 (ix5 0 n h k z) = ix4 0 n h k from ix4_of rfl rfl rfl rfl,
    val_main_call6_v4_apply, val_main_call6_v1_apply, val_main_call6_v0_apply, val_main_call6_c_apply,
    expert_at x0 x1 x2 x3 x4 x5 x6 hp]
  exact not_wrapped (by omega) _

/-- The test that it is in range succeeds. -/
theorem expert_tested (k : Fin 8) (z : Fin 1) :
    val_main_call6_v11 (F := Ideal) x0 x1 x2 x3 x4 x5 x6 (ix5 0 n h k z) = 1#1 := by
  rw [val_main_call6_v11_apply, val_main_call6_v7_apply, val_main_call6_v10_apply, val_main_call6_v6_apply,
    val_main_call6_c_2_apply, val_main_call6_v9_apply, val_main_call6_v8_apply, val_main_call6_c_1_apply,
    expert_read_at x0 x1 x2 x3 x4 x5 x6 hp]
  exact in_range (by omega) (by decide)

/-- It is in range at every slot. -/
theorem expert_in_range (i : S1x2048x8x8.Idx) : val_main_call6_v12 (F := Ideal) x0 x1 x2 x3 x4 x5 x6 i = 1#1 := by
  unfold val_main_call6_v12
  refine all_ones _ _ _ _ _ (fun _ => rfl) fun j => ?_
  have e : j = (ix5 0 (j 1) (j 2) (j 3) (j 4) : S1x2048x8x8x1.Idx) := by
    refine ix5_of ?_ rfl rfl rfl rfl
    have : (j 0).val < 1 := (j 0).isLt
    show (j 0).val = 0
    omega
  exact (congrArg (val_main_call6_v11 (F := Ideal) x0 x1 x2 x3 x4 x5 x6) e).trans
    (expert_tested x0 x1 x2 x3 x4 x5 x6 hp (j 1) (j 2) (j 3) (j 4))

/-- The read of the first expert table. -/
theorem down_at (x7 : S16384x768.Idx → EReal) (k : Fin 8) (d : Fin 768) :
    val_main_v75 (F := Ideal) x0 x1 x2 x3 x4 x5 x6 x7 (ix5 0 n h k d)
      = Spec.firstRows (table x7) (experts x0 x1 x5 x6 n h k) d := by
  rw [val_main_v75_apply, val_main_call6_v14_apply, expert_in_range x0 x1 x2 x3 x4 x5 x6 hp]
  refine (?_ : _ = val_main_call6_v13 (F := Ideal) x0 x1 x2 x3 x4 x5 x6 x7 (ix5 0 n h k d)).trans ?_
  · rfl
  · unfold val_main_call6_v13
    rw [gather_rows _ _ n h k d ⟨(experts x0 x1 x5 x6 n h k).val, by omega⟩ (by
      rw [expert_read_at x0 x1 x2 x3 x4 x5 x6 hp, Field.toInt_ofNat (by omega)]; rfl)]
    rfl

/-- The read of the second expert table: the same read of another table. -/
theorem up_at (x8 : S16384x768.Idx → EReal) (k : Fin 8) (d : Fin 768) :
    val_main_v85 (F := Ideal) x0 x1 x2 x3 x4 x5 x6 x8 (ix5 0 n h k d)
      = Spec.firstRows (table x8) (experts x0 x1 x5 x6 n h k) d :=
  (show val_main_v85 (F := Ideal) x0 x1 x2 x3 x4 x5 x6 x8 (ix5 0 n h k d)
    = val_main_v75 (F := Ideal) x0 x1 x2 x3 x4 x5 x6 x8 (ix5 0 n h k d) from rfl).trans
    (down_at x0 x1 x2 x3 x4 x5 x6 hp n h x8 k d)

variable (x7 x8 : S16384x768.Idx → EReal)

/-- The token's product with the expert's row. -/
theorem hidden_at (k : Fin 8) : val_main_v76 (F := Ideal) x0 x1 x2 x3 x4 x5 x6 x7 (ix4 0 n h k)
    = Spec.hidden (token x0 n) (Spec.firstRows (table x7)) (experts x0 x1 x5 x6 n h k) := by
  rw [val_main_v76_apply, Spec.hidden]
  refine Finset.sum_congr rfl fun d _ => ?_
  rw [show ridx_main_v76 (ix4 0 n h k) d = ix5 0 n h k d from ix5_of rfl rfl rfl rfl rfl,
    show lidx_main_v76 (ix4 0 n h k) d = ix3 0 n d from ix3_of rfl rfl rfl,
    down_at x0 x1 x2 x3 x4 x5 x6 hp, mul_comm]

/-- What a slot weighs its expert's output with. -/
theorem weight_at (k : Fin 8) : val_main_v84 (F := Ideal) x0 x1 x2 x3 x4 x5 x6 x7 (ix4 0 n h k)
    = Spec.weight (Spec.hidden (token x0 n) (Spec.firstRows (table x7))) (s0 x0 x1 x5 n h) (s1 x0 x1 x6 n h) k := by
  rw [val_main_v84_apply, gate_at x0 x1 x2 x3 x4 x5 x6 hp, val_main_v83_apply, val_main_v82_apply, val_main_v81_apply,
    val_main_v80_apply, val_main_cst_15_apply, val_main_v79_apply, val_main_v78_apply, val_main_v77_apply,
    val_main_cst_14_apply, hidden_at x0 x1 x2 x3 x4 x5 x6 hp]
  exact congrArg (· * _) (act_erfc _)

/-- The reference's result is the layer. -/
theorem layer_at (c : Fin 768) : val_main_v87 (F := Ideal) x0 x1 x2 x3 x4 x5 x6 x7 x8 (ix2 n c)
    = Spec.layer (token x0 n) (table x1) (table x5) (table x6) (table x7) (table x8) c := by
  have e : idx_main_v87 (ix2 n c) = ix3 0 n c := by
    refine ix3_of rfl ?_ ?_
    · show (n.val * 768 + c.val) / 768 % 2048 = n.val; omega
    · show (n.val * 768 + c.val) % 768 = c.val; omega
  rw [val_main_v87_apply, e]
  unfold val_main_v86
  rw [sum_slots, Spec.layer, Spec.out]
  refine Finset.sum_congr rfl fun h _ => Finset.sum_congr rfl fun k _ => ?_
  rw [weight_at x0 x1 x2 x3 x4 x5 x6 hp, up_at x0 x1 x2 x3 x4 x5 x6 hp]

end Cert.Reference
-- ==== Proof.Precondition.lean ====
/-
What the precondition says of the arguments, number by number.
-/
module

public import proofs.«01_k».proof.Defs
public import Idealize.ShloMosaic.PureOps.Ideal.Laws
public import Idealize.ShloMosaic.Lib.IdealHost
public import proofs.«01_k».proof.Proof.Gen.Pre_plain_norm

@[expose] public section

noncomputable section

namespace Cert.Precondition

open Idealize.ShloMosaic Idealize.ShloMosaic.TcCoe

/-- The comparison for equality gives one only of equal numbers. -/
theorem eq_of_oeq {a b : EReal} (h : FloatOps.cmpf (F := Ideal) (φ := .f32) .oeq a b = 1#1) : a = b := by
  by_contra hn
  rw [Ideal.cmpf_def] at h
  simp [Ideal.cmp, hn] at h

instance : Cert.Pre_plain_norm.Facts := Cert.Pre_plain_norm.Gen.facts

variable {m : (ℓ : Loc Cert.KernelIdeal.nD Cert.KernelIdeal.τ Cert.KernelIdeal.sig) → Buf (Elt Ideal) ℓ}
variable (hm : Cert.Pre_KernelIdeal_plain_norm m) (c : Dev Cert.KernelIdeal.nD)

include hm

/-- The query's offset is zero. -/
theorem offset (i : Cert.Pre_plain_norm.S2048.Idx) :
    m ((c.tc : Thread Cert.KernelIdeal.nD Cert.KernelIdeal.τ).loc Cert.KernelIdeal.main_arg2) i = (0 : EReal) :=
  (eq_of_oeq (congrFun (hm c).1 i)).trans Ideal.ofBits_zero_f32

/-- The normalisation's scale is one. -/
theorem scale (i : Cert.Pre_plain_norm.S256.Idx) :
    m ((c.tc : Thread Cert.KernelIdeal.nD Cert.KernelIdeal.τ).loc Cert.KernelIdeal.main_arg3) i = (1 : EReal) :=
  (eq_of_oeq (congrFun (hm c).2.1 i)).trans Ideal.ofBits_one_f32

/-- The normalisation's offset is zero. -/
theorem shift (i : Cert.Pre_plain_norm.S256.Idx) :
    m ((c.tc : Thread Cert.KernelIdeal.nD Cert.KernelIdeal.τ).loc Cert.KernelIdeal.main_arg4) i = (0 : EReal) :=
  (eq_of_oeq (congrFun (hm c).2.2 i)).trans Ideal.ofBits_zero_f32

end Cert.Precondition
-- ==== Proof.Equation.lean ====
/-
The equation: from equal arguments that meet the precondition, the kernel's array and the reference's result are the
layer, entry by entry.
-/
module

public import proofs.«01_k».proof.Proof.KernelArray
public import proofs.«01_k».proof.Proof.RefLayer
public import proofs.«01_k».proof.Proof.Precondition
public import proofs.«01_k».proof.Proof.Gen.ReferenceIdeal.Run

@[expose] public section

noncomputable section

namespace Cert.Equation

open Idealize.ShloMosaic Idealize.ShloMosaic.TcCoe Idealize.ShloMosaic.ValueIdx Idealize.SL.Sem

instance : Cert.KernelIdeal.Facts := Cert.KernelIdeal.Gen.facts
instance : Cert.ReferenceIdeal.Facts := Cert.ReferenceIdeal.Gen.facts

/-- The reference's result, as an array, of the kernel's arguments: what the kernel leaves in its own. -/
theorem reference_eq_kernel (m : (ℓ : Loc Cert.KernelIdeal.nD Cert.KernelIdeal.τ Cert.KernelIdeal.sig) → Buf (Elt Ideal) ℓ)
    (hm : Cert.Pre_KernelIdeal_plain_norm m) (c : Dev Cert.KernelIdeal.nD) :
    Cert.ReferenceIdeal.Read.val_main_v87 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      = (Cert.KernelIdeal.Gen.dats m 0 c).arrAt 6 Cert.KernelIdeal.cfg0.N := by
  rw [Cert.KernelIdeal.Array.final m c]
  funext i
  have hp : Cert.Reference.Plain
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) :=
    ⟨Cert.Precondition.offset hm c, Cert.Precondition.scale hm c, Cert.Precondition.shift hm c⟩
  exact (congrArg _ (eq_ix2 i)).trans (Cert.Reference.layer_at _ _ _ _ _ _ _ hp (i 0) _ _ (i 1))

end Cert.Equation

end
-- ==== Proof.lean ====
/-
The proof of `Cert.Claim`: the frames of the three programs, and the equality of the kernel's and the reference's results
at extended reals. The mathematics is in the modules under Proof/; this one only puts the two runs side by side.
-/
module

public import proofs.«01_k».proof.Defs
public import proofs.«01_k».proof.Proof.Frames
public import proofs.«01_k».proof.Proof.Equation

@[expose] public section

noncomputable section

namespace Cert.Proof

open Idealize.ShloMosaic Idealize.SL.Sem

instance : Cert.KernelIdeal.Facts := Cert.KernelIdeal.Gen.facts
instance : Cert.ReferenceIdeal.Facts := Cert.ReferenceIdeal.Gen.facts
instance : Cert.Pre_plain_norm.Facts := Cert.Pre_plain_norm.Gen.facts

/-- From equal arguments that meet the precondition, the two programs end with equal results. -/
theorem algebraic : Cert.algebraic_KernelIdeal_ReferenceIdeal_pre_plain_norm := fun m ρ m' ρ' hm hagree => by
  refine ⟨_, Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v87_eq (F := Ideal) (StableHlo.launchContents m' c)).trans ?_
  obtain ⟨h0, h1, h2, h3, h4, h5, h6, h7, h8⟩ := hagree c
  refine Eq.trans ?_ (Cert.Equation.reference_eq_kernel m hm c)
  rw [← h0, ← h1, ← h2, ← h3, ← h4, ← h5, ← h6, ← h7, ← h8]

/-- Every claim. -/
theorem claim : Cert.Claim := ⟨Cert.Kernel.Gen.facts, Cert.KernelIdeal.Gen.facts, Cert.ReferenceIdeal.Gen.facts,
  Cert.Pre_plain_norm.Gen.facts, Cert.Frames.kernel, Cert.Frames.kernelIdeal, Cert.Frames.kernelIdeal_plain,
  Cert.Frames.referenceIdeal, Cert.Frames.referenceIdeal_plain, trivial, algebraic⟩

end Cert.Proof

end
